-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .bf16) (main_arg1 : FVec F S512x256 .bf16) (main_arg2 : FVec F S2x128x16x64 .bf16) (main_arg3 : FVec F S2x128x16x64 .bf16) (main_arg4 : FVec F S256x512 .bf16) : IVec S_ 1 :=
  let main_v0 : FVec F S2x128x512 .f32 := (extf .f32 · bitsLt_bf16_f32) main_arg0
  let main_v1 : FVec F S512x256 .f32 := (extf .f32 · bitsLt_bf16_f32) main_arg1
  let main_v2 : FVec F S2x128x16x64 .f32 := (extf .f32 · bitsLt_bf16_f32) main_arg2
  let main_v3 : FVec F S2x128x512 .f32 := Host.absf main_v0
  let main_cst : FVec F S_ .f32 := constant S_ .f32 0x7F800000#32
  let main_v4 : FVec F S2x128x512 .f32 := broadcastInDim S2x128x512 ![] bcast_S_S2x128x512 main_cst
  let main_v5 : IVec S2x128x512 1 := cmpf .olt main_v3 main_v4
  let main_c : IVec S_ 1 := constantI S_ 1 1#1
  let main_v6 : IVec S_ 1 := (fun x v => Host.reduce IntOp.andi x v reducesTo_S2x128x512_S_d0_1_2 h_S_) main_v5 main_c
  let main_v7 : FVec F S512x256 .f32 := Host.absf main_v1
  let main_cst_0 : FVec F S_ .f32 := constant S_ .f32 0x7F800000#32
  let main_v8 : FVec F S512x256 .f32 := broadcastInDim S512x256 ![] bcast_S_S512x256 main_cst_0
  let main_v9 : IVec S512x256 1 := cmpf .olt main_v7 main_v8
  let main_c_1 : IVec S_ 1 := constantI S_ 1 1#1
  let main_v10 : IVec S_ 1 := (fun x v => Host.reduce IntOp.andi x v reducesTo_S512x256_S_d0_1 h_S_) main_v9 main_c_1
  let main_v11 : IVec S_ 1 := andi main_v6 main_v10
  let main_v12 : FVec F S2x128x16x64 .f32 := Host.absf main_v2
  let main_cst_2 : FVec F S_ .f32 := constant S_ .f32 0x7F800000#32
  let main_v13 : FVec F S2x128x16x64 .f32 := broadcastInDim S2x128x16x64 ![] bcast_S_S2x128x16x64 main_cst_2
  let main_v14 : IVec S2x128x16x64 1 := cmpf .olt main_v12 main_v13
  let main_c_3 : IVec S_ 1 := constantI S_ 1 1#1
  let main_v15 : IVec S_ 1 := (fun x v => Host.reduce IntOp.andi x v reducesTo_S2x128x16x64_S_d0_1_2_3 h_S_) main_v14 main_c_3
  let main_v16 : IVec S_ 1 := andi main_v11 main_v15
  main_v16
-- ==== Pre_finite_ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .bf16) (main_arg1 : FVec F S512x1024 .bf16) (main_arg2 : FVec F S2x128x16x64 .bf16) (main_arg3 : FVec F S2x128x16x64 .bf16) (main_arg4 : FVec F S1024x512 .bf16) : IVec S_ 1 :=
  let main_v0 : FVec F S2x128x512 .f32 := (extf .f32 · bitsLt_bf16_f32) main_arg0
  let main_v1 : FVec F S512x1024 .f32 := (extf .f32 · bitsLt_bf16_f32) main_arg1
  let main_v2 : FVec F S2x128x16x64 .f32 := (extf .f32 · bitsLt_bf16_f32) main_arg2
  let main_v3 : FVec F S2x128x512 .f32 := Host.absf main_v0
  let main_cst : FVec F S_ .f32 := constant S_ .f32 0x7F800000#32
  let main_v4 : FVec F S2x128x512 .f32 := broadcastInDim S2x128x512 ![] bcast_S_S2x128x512 main_cst
  let main_v5 : IVec S2x128x512 1 := cmpf .olt main_v3 main_v4
  let main_c : IVec S_ 1 := constantI S_ 1 1#1
  let main_v6 : IVec S_ 1 := (fun x v => Host.reduce IntOp.andi x v reducesTo_S2x128x512_S_d0_1_2 h_S_) main_v5 main_c
  let main_v7 : FVec F S512x1024 .f32 := Host.absf main_v1
  let main_cst_0 : FVec F S_ .f32 := constant S_ .f32 0x7F800000#32
  let main_v8 : FVec F S512x1024 .f32 := broadcastInDim S512x1024 ![] bcast_S_S512x1024 main_cst_0
  let main_v9 : IVec S512x1024 1 := cmpf .olt main_v7 main_v8
  let main_c_1 : IVec S_ 1 := constantI S_ 1 1#1
  let main_v10 : IVec S_ 1 := (fun x v => Host.reduce IntOp.andi x v reducesTo_S512x1024_S_d0_1 h_S_) main_v9 main_c_1
  let main_v11 : IVec S_ 1 := andi main_v6 main_v10
  let main_v12 : FVec F S2x128x16x64 .f32 := Host.absf main_v2
  let main_cst_2 : FVec F S_ .f32 := constant S_ .f32 0x7F800000#32
  let main_v13 : FVec F S2x128x16x64 .f32 := broadcastInDim S2x128x16x64 ![] bcast_S_S2x128x16x64 main_cst_2
  let main_v14 : IVec S2x128x16x64 1 := cmpf .olt main_v12 main_v13
  let main_c_3 : IVec S_ 1 := constantI S_ 1 1#1
  let main_v15 : IVec S_ 1 := (fun x v => Host.reduce IntOp.andi x v reducesTo_S2x128x16x64_S_d0_1_2_3 h_S_) main_v14 main_c_3
  let main_v16 : IVec S_ 1 := andi main_v11 main_v15
  main_v16
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S2x128x1024 : Shape := ⟨3, ![2, 128, 1024]⟩
abbrev S2x256x512 : Shape := ⟨3, ![2, 256, 512]⟩
abbrev S2x4x2 : Shape := ⟨3, ![2, 4, 2]⟩
abbrev S_ : Shape := ⟨0, ![]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S1x128x256 : Shape := ⟨3, ![1, 128, 256]⟩
abbrev S128x64 : Shape := ⟨2, ![128, 64]⟩
abbrev S128 : Shape := ⟨1, ![128]⟩
abbrev S128x1 : Shape := ⟨2, ![128, 1]⟩
abbrev S1x1x1 : Shape := ⟨3, ![1, 1, 1]⟩
abbrev S1x64x256 : Shape := ⟨3, ![1, 64, 256]⟩
abbrev S64x256 : Shape := ⟨2, ![64, 256]⟩
abbrev S64x512 : Shape := ⟨2, ![64, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S2x128x1024, .bf16⟩
  | .hbm, ⟨6, _⟩ => ⟨S2x128x1024, .bf16⟩
  | .hbm, ⟨7, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x128x1024, .bf16⟩
  | .local _ .vmem, ⟨3, _⟩ => ⟨S2x128x1024, .bf16⟩
  | .local _ .vmem, ⟨4, _⟩ => ⟨S256x512, .bf16⟩
  | .local _ .vmem, ⟨5, _⟩ => ⟨S2x128x512, .bf16⟩
  | .local _ .vmem, ⟨6, _⟩ => ⟨S2x256x512, .bf16⟩
  | .local _ .vmem, ⟨7, _⟩ => ⟨S2x256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v9 : BitVec 32 := Scalar.muli v4 c1_i32_4
  let v10 : BitVec 32 := Scalar.addi c0_i32_5 v9
  v10.toNat
def k0_off1 (d0 : Dev nD) : Fin 3 → Nat :=
  let c0_26 : Index := 0#32
  let c0_27 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v5 : BitVec 32 := Scalar.muli v2 c256_i32
  let v74 : Index := Scalar.indexCast v5
  ![0, 0, v74.toNat]
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_58 : BitVec 32 := 1#32
  let v146 : BitVec 32 := Scalar.muli v3 c1_i32_58
  let v147 : BitVec 32 := Scalar.addi c0_i32_59 v146
  v147.toNat
def k0_dev4 (d0 : Dev nD) : Nat :=
  let c0_i32_73 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_72 : BitVec 32 := 1#32
  let v156 : BitVec 32 := Scalar.muli v4 c1_i32_72
  let v157 : BitVec 32 := Scalar.addi c0_i32_73 v156
  v157.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_86 : BitVec 32 := 1#32
  let v166 : BitVec 32 := Scalar.muli v3 c1_i32_86
  let v167 : BitVec 32 := Scalar.addi c0_i32_87 v166
  v167.toNat
def k0_dev6 (d0 : Dev nD) : Nat :=
  let c0_i32_101 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_100 : BitVec 32 := 1#32
  let v176 : BitVec 32 := Scalar.muli v4 c1_i32_100
  let v177 : BitVec 32 := Scalar.addi c0_i32_101 v176
  v177.toNat
def k0_off2 (d0 : Dev nD) : Fin 3 → Nat :=
  let c1_110 : Index := 1#32
  let c0_111 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v5 : BitVec 32 := Scalar.muli v2 c256_i32
  let v192 : Index := Scalar.indexCast v5
  ![1, 0, v192.toNat]
def k0_dev7 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_141 : BitVec 32 := 1#32
  let v264 : BitVec 32 := Scalar.muli v3 c1_i32_141
  let v265 : BitVec 32 := Scalar.addi c0_i32_142 v264
  v265.toNat
def k0_dev8 (d0 : Dev nD) : Nat :=
  let c0_i32_155 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_154 : BitVec 32 := 1#32
  let v274 : BitVec 32 := Scalar.muli v4 c1_i32_154
  let v275 : BitVec 32 := Scalar.addi c0_i32_155 v274
  v275.toNat
def k0_dev9 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_168 : BitVec 32 := 1#32
  let v284 : BitVec 32 := Scalar.muli v3 c1_i32_168
  let v285 : BitVec 32 := Scalar.addi c0_i32_169 v284
  v285.toNat
def k0_dev10 (d0 : Dev nD) : Nat :=
  let c0_i32_182 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_181 : BitVec 32 := 1#32
  let v294 : BitVec 32 := Scalar.muli v4 c1_i32_181
  let v295 : BitVec 32 := Scalar.addi c0_i32_182 v294
  v295.toNat
def k0_dev11 (d0 : Dev nD) : Nat :=
  let c0_i32_229 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_228 : BitVec 32 := 1#32
  let v328 : BitVec 32 := Scalar.muli v4 c1_i32_228
  let v329 : BitVec 32 := Scalar.addi c0_i32_229 v328
  v329.toNat
def k0_dev12 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_274 : BitVec 32 := 1#32
  let v361 : BitVec 32 := Scalar.muli v3 c1_i32_274
  let v362 : BitVec 32 := Scalar.addi c0_i32_275 v361
  v362.toNat
def k0_dev13 (d0 : Dev nD) : Nat :=
  let c0_i32_321 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_320 : BitVec 32 := 1#32
  let v395 : BitVec 32 := Scalar.muli v4 c1_i32_320
  let v396 : BitVec 32 := Scalar.addi c0_i32_321 v395
  v396.toNat
def k0_dev14 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_367 : BitVec 32 := 1#32
  let v428 : BitVec 32 := Scalar.muli v3 c1_i32_367
  let v429 : BitVec 32 := Scalar.addi c0_i32_368 v428
  v429.toNat
def k0_dev15 (d0 : Dev nD) : Nat :=
  let c0_i32_415 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_414 : BitVec 32 := 1#32
  let v462 : BitVec 32 := Scalar.muli v4 c1_i32_414
  let v463 : BitVec 32 := Scalar.addi c0_i32_415 v462
  v463.toNat
def k0_dev16 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_461 : BitVec 32 := 1#32
  let v495 : BitVec 32 := Scalar.muli v3 c1_i32_461
  let v496 : BitVec 32 := Scalar.addi c0_i32_462 v495
  v496.toNat
def k0_dev17 (d0 : Dev nD) : Nat :=
  let c0_i32_508 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_507 : BitVec 32 := 1#32
  let v529 : BitVec 32 := Scalar.muli v4 c1_i32_507
  let v530 : BitVec 32 := Scalar.addi c0_i32_508 v529
  v530.toNat
def k0_dev18 (d0 : Dev nD) : Nat :=
  let c0_i32_555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_554 : BitVec 32 := 1#32
  let v562 : BitVec 32 := Scalar.muli v3 c1_i32_554
  let v563 : BitVec 32 := Scalar.addi c0_i32_555 v562
  v563.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 94
  | .vmem => 4
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x16x64, .bf16⟩
  | .hbm, ⟨3, _⟩ => ⟨S2x128x16x64, .bf16⟩
  | .hbm, ⟨4, _⟩ => ⟨S1024x512, .bf16⟩
  | .hbm, ⟨5, _⟩ => ⟨S2x128x512, .f32⟩
  | .hbm, ⟨6, _⟩ => ⟨S512x1024, .f32⟩
  | .hbm, ⟨7, _⟩ => ⟨S2x128x16x64, .f32⟩
  | .hbm, ⟨8, _⟩ => ⟨S2x128x16x64, .f32⟩
  | .hbm, ⟨9, _⟩ => ⟨S1024x512, .f32⟩
  | .hbm, ⟨10, _⟩ => ⟨S2x128x1024, .f32⟩
  | .hbm, ⟨11, _⟩ => ⟨S2x128x1024, .bf16⟩
  | .hbm, ⟨12, _⟩ => ⟨S2x128x1024, .f32⟩
  | .hbm, ⟨13, _⟩ => ⟨S2x128x16x64, .f32⟩
  | .hbm, ⟨14, _⟩ => ⟨S128, .i32⟩
  | .hbm, ⟨15, _⟩ => ⟨S_, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S128, .i1⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S128x1, .i32⟩
  | .hbm, ⟨34, _⟩ => ⟨S128, .i32⟩
  | .hbm, ⟨35, _⟩ => ⟨S_, .i32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S128, .i1⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S1x128, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S2x16x128x128, .f32⟩
  | .hbm, ⟨58, _⟩ => ⟨S2x16x128x128, .bf16⟩
  | .hbm, ⟨59, _⟩ => ⟨S2x16x128x128, .f32⟩
  | .hbm, ⟨60, _⟩ => ⟨S_, .f32⟩
  | .hbm, ⟨61, _⟩ => ⟨S2x16x128x128, .f32⟩
  | .hbm, ⟨62, _⟩ => ⟨S2x16x128x128, .f32⟩
  | .hbm, ⟨63, _⟩ => ⟨S2x16x128x128, .f32⟩
  | .hbm, ⟨64, _⟩ => ⟨S_, .f32⟩
  | .hbm, ⟨65, _⟩ => ⟨S2x16x128, .f32⟩
  | .hbm, ⟨66, _⟩ => ⟨S2x16x128x1, .f32⟩
  | .hbm, ⟨67, _⟩ => ⟨S2x16x128x128, .f32⟩
  | .hbm, ⟨68, _⟩ => ⟨S2x16x128x128, .f32⟩
  | .hbm, ⟨69, _⟩ => ⟨S2x16x128x128, .f32⟩
  | .hbm, ⟨70, _⟩ => ⟨S_, .i1⟩
  | .hbm, ⟨71, _⟩ => ⟨S128, .i1⟩
  | .hbm, ⟨72, _⟩ => ⟨S1x1x128x1, .i1⟩
  | .hbm, ⟨73, _⟩ => ⟨S_, .f32⟩
  | .hbm, ⟨74, _⟩ => ⟨S2x16x128, .f32⟩
  | .hbm, ⟨75, _⟩ => ⟨S2x16x128x1, .f32⟩
  | .hbm, ⟨76, _⟩ => ⟨S_, .f32⟩
  | .hbm, ⟨77, _⟩ => ⟨S_, .f32⟩
  | .hbm, ⟨78, _⟩ => ⟨S2x16x128x1, .i1⟩
  | .hbm, ⟨79, _⟩ => ⟨S2x16x128x1, .f32⟩
  | .hbm, ⟨80, _⟩ => ⟨S2x16x128x1, .f32⟩
  | .hbm, ⟨81, _⟩ => ⟨S2x16x128x128, .f32⟩
  | .hbm, ⟨82, _⟩ => ⟨S2x16x128x128, .f32⟩
  | .hbm, ⟨83, _⟩ => ⟨S1x1x128x1, .i1⟩
  | .hbm, ⟨84, _⟩ => ⟨S_, .f32⟩
  | .hbm, ⟨85, _⟩ => ⟨S_, .f32⟩
  | .hbm, ⟨86, _⟩ => ⟨S2x16x128x128, .i1⟩
  | .hbm, ⟨87, _⟩ => ⟨S2x16x128x128, .f32⟩
  | .hbm, ⟨88, _⟩ => ⟨S2x16x128x128, .f32⟩
  | .hbm, ⟨89, _⟩ => ⟨S2x16x64x128, .f32⟩
  | .hbm, ⟨90, _⟩ => ⟨S2x128x16x64, .f32⟩
  | .hbm, ⟨91, _⟩ => ⟨S2x128x1024, .f32⟩
  | .hbm, ⟨92, _⟩ => ⟨S2x128x512, .f32⟩
  | .hbm, ⟨93, _⟩ => ⟨S2x128x512, .bf16⟩
  | .local _ .vmem, ⟨0, _⟩ => ⟨S1x128, .i32⟩
  | .local _ .vmem, ⟨1, _⟩ => ⟨S128x1, .i32⟩
  | .local _ .vmem, ⟨2, _⟩ => ⟨S2x16x128x128, .f32⟩
  | .local _ .vmem, ⟨3, _⟩ => ⟨S2x16x128x128, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c_2 : Ref sig .tc := ⟨.hbm, 70, rfl⟩
abbrev main_v29 : Ref sig .tc := ⟨.hbm, 71, rfl⟩
abbrev main_v30 : Ref sig .tc := ⟨.hbm, 72, rfl⟩
abbrev main_cst_3 : Ref sig .tc := ⟨.hbm, 73, rfl⟩
abbrev main_v31 : Ref sig .tc := ⟨.hbm, 74, rfl⟩
abbrev main_v32 : Ref sig .tc := ⟨.hbm, 75, rfl⟩
abbrev main_cst_4 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_5 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Values.lean ====
/-
  What each device computes, as functions of the blocks the devices are handed: the two halves of the projected
  attention output a device stages for sending, the sums of the first exchange, and the result after the second.
-/
module

public import proofs.«01_k».proof.Proof.Gen.KernelIdeal.Skeleton
public import Idealize.ShloMosaic.Lib.ValueIdxCore

@[expose] public section

noncomputable section

namespace Cert.KernelIdeal.Tp

open Idealize.ShloMosaic Idealize.ShloMosaic.TcCoe Idealize.SL.Sem Idealize.ShloMosaic.ValueIdx
open Cert.KernelIdeal.Gen

variable {F : FTy → Type} [FloatOps F]

/-! ## The memrefs of the body, and the indices of the sixteen transfers

Transfer `i` of sixteen: exchange `i / 8`, quarter `i / 2 % 4` of the 256 rows, half `i % 2` of the 512 columns. -/

abbrev a0 : Memref sig .tc .vmem S2x128x512 .bf16 := Memref.whole cc0_stg0_0
abbrev a1 : Memref sig .tc .vmem S512x256 .bf16 := Memref.whole cc0_stg1_0
abbrev a2 : Memref sig .tc .vmem S2x128x1024 .bf16 := Memref.whole cc0_stg2_0
abbrev a3 : Memref sig .tc .vmem S2x128x1024 .bf16 := Memref.whole cc0_stg3_0
abbrev a4 : Memref sig .tc .vmem S256x512 .bf16 := Memref.whole cc0_stg4_0
abbrev a5 : Memref sig .tc .vmem S2x128x512 .bf16 := Memref.whole cc0_stg5_0
abbrev a6 : Memref sig .tc .vmem S2x256x512 .bf16 := Memref.whole cc0_scratch0
abbrev a7 : Memref sig .tc .vmem S2x256x512 .bf16 := Memref.whole cc0_scratch1
/-- Block 0 is a whole buffer. -/
theorem h0 : a0.IsWhole := Memref.isWhole_whole _
/-- Block 1 is a whole buffer. -/
theorem h1 : a1.IsWhole := Memref.isWhole_whole _
/-- Block 2 is a whole buffer. -/
theorem h2 : a2.IsWhole := Memref.isWhole_whole _
/-- Block 3 is a whole buffer. -/
theorem h3 : a3.IsWhole := Memref.isWhole_whole _
/-- Block 4 is a whole buffer. -/
theorem h4 : a4.IsWhole := Memref.isWhole_whole _
/-- Block 5 is a whole buffer. -/
theorem h5 : a5.IsWhole := Memref.isWhole_whole _
/-- Block 6 is a whole buffer. -/
theorem h6 : a6.IsWhole := Memref.isWhole_whole _
/-- Block 7 is a whole buffer. -/
theorem h7 : a7.IsWhole := Memref.isWhole_whole _

/-- The first and second neighbour. -/
def p1 (c : Dev nD) : Dev nD := ![1, 0, 3, 2] c
def p2 (c : Dev nD) : Dev nD := ![3, 2, 1, 0] c
/-- The first neighbour's first neighbour is the device itself. -/
theorem p1_p1 (c : Dev nD) : p1 (p1 c) = c := by revert c; decide
/-- The second neighbour's second neighbour is the device itself. -/
theorem p2_p2 (c : Dev nD) : p2 (p2 c) = c := by revert c; decide

/-- Whether transfer `i` goes to the second neighbour. -/
def cls (i : Fin 16) : Bool := ![false, true, false, true, false, true, false, true, true, false, true, false, true, false, true, false] i
/-- The neighbour of class `b`. -/
def nb (b : Bool) (c : Dev nD) : Dev nD := if b then p2 c else p1 c
/-- The neighbour of either class is mutual. -/
theorem nb_nb (b : Bool) (c : Dev nD) : nb b (nb b c) = c := by revert b c; decide
/-- The device transfer `i` of device `c` goes to, and comes from. -/
abbrev peer (i : Fin 16) (c : Dev nD) : Dev nD := nb (cls i) c
/-- A transfer's partner names the device back as its partner. -/
theorem peer_peer (i : Fin 16) (c : Dev nD) : peer i (peer i c) = c := nb_nb _ _

/-- The piece of the send (and of the receive) buffer transfer `i` moves. -/
abbrev pOff (i : Fin 16) : Fin 3 → Nat := ![i.val / 8, 64 * (i.val / 2 % 4), 256 * (i.val % 2)]
/-- Every transfer's piece lies inside the buffer. -/
theorem pInb (i : Fin 16) : ∀ a, pOff i a + S1x64x256.size a ≤ S2x256x512.size a := by revert i; decide
abbrev pR (i : Fin 16) : Rect S2x256x512 := Rect.unit (s := S2x256x512) (pOff i) S1x64x256.size (pInb i)

/-- The piece of the result written at the end of second-exchange transfer `8 + j`. -/
abbrev oOff (j : Fin 8) : Fin 3 → Nat := ![j.val / 4, 64 * (j.val / 2 % 2), 256 * (j.val % 2)]
/-- Every piece of the result lies inside the result. -/
theorem oInb (j : Fin 8) : ∀ a, oOff j a + S1x64x256.size a ≤ S2x128x512.size a := by revert j; decide
abbrev oR (j : Fin 8) : Rect S2x128x512 := Rect.unit (s := S2x128x512) (oOff j) S1x64x256.size (oInb j)

/-- First- and second-exchange transfer of piece `j`. -/
abbrev lo (j : Fin 8) : Fin 16 := ⟨j.val, by omega⟩
abbrev hi (j : Fin 8) : Fin 16 := ⟨j.val + 8, by omega⟩

/-- The send and the receive semaphore of transfer `i`, and the barrier semaphore. -/
abbrev sS (i : Fin 16) : DmaSem sig := ⟨6 + i.val, show 6 + i.val < 38 by omega⟩
abbrev rS (i : Fin 16) : DmaSem sig := ⟨22 + i.val, show 22 + i.val < 38 by omega⟩
abbrev barS : Sem sig := (SemArray.scalar (sig.barrier 0 rfl) : Sems sig S_).sem

/-! ## The values -/

variable (F) in
/-- What one device's body is handed. -/
structure Ins where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

section One

variable (c : Dev nD) (I : Ins F)

def wqV : FVec F S512x256 .bf16 := k0_pay2 ((a1.access (Rect.unit (s := S512x256) ![0, 0] S512x256.size inb_S512x256_S512x256_0_0)).read (Elt F) I.wq)
def woV : FVec F S256x512 .bf16 := k0_pay3 ((a4.access (Rect.unit (s := S256x512) ![0, 0] S256x512.size inb_S256x512_S256x512_0_0)).read (Elt F) I.wo)
def x0 : Vec F S1x128x512 .bf16 := (a0.access (Rect.unit (s := S2x128x512) ![0, 0, 0] S1x128x512.size inb_S2x128x512_S1x128x512_0_0_0)).read (Elt F) I.x
def x1 : Vec F S1x128x512 .bf16 := (a0.access (Rect.unit (s := S2x128x512) ![1, 0, 0] S1x128x512.size inb_S2x128x512_S1x128x512_1_0_0)).read (Elt F) I.x
def k0r : Vec F S1x128x256 .bf16 := (a2.access (Rect.unit (s := S2x128x1024) (k0_off1 c) S1x128x256.size (k0_off1_inb c))).read (Elt F) I.k
def k1r : Vec F S1x128x256 .bf16 := (a2.access (Rect.unit (s := S2x128x1024) (k0_off2 c) S1x128x256.size (k0_off2_inb c))).read (Elt F) I.k
def v0r : Vec F S1x128x256 .bf16 := (a3.access (Rect.unit (s := S2x128x1024) (k0_off1 c) S1x128x256.size (k0_off1_inb c))).read (Elt F) I.v
def v1r : Vec F S1x128x256 .bf16 := (a3.access (Rect.unit (s := S2x128x1024) (k0_off2 c) S1x128x256.size (k0_off2_inb c))).read (Elt F) I.v
/-- The mask. -/
def mk : FVec F S128x128 .f32 := k0_pay7 (F := F) k0_pay4 k0_pay5 k0_pay6
def q0 : FVec F S128x256 .bf16 := k0_pay8 (wqV I) (x0 I)
def kk0 : FVec F S128x256 .bf16 := k0_pay9 (k0r c I)

/-- The device's share of the projected output, batch 0: held wide, and as stored for sending. -/
def P0 : FVec F S128x512 .f32 :=
  k0_pay16 (woV I) mk (k0_pay10 (v0r c I)) (k0_pay11 mk (q0 I) (kk0 c I) (v0r c I)) (k0_pay12 mk (q0 I) (kk0 c I) (v0r c I))
    (k0_pay13 mk (q0 I) (kk0 c I) (v0r c I)) (k0_pay14 (q0 I)) (k0_pay15 (kk0 c I))
def S0 : FVec F S1x128x512 .bf16 :=
  k0_pay17 (woV I) mk (k0_pay10 (v0r c I)) (k0_pay11 mk (q0 I) (kk0 c I) (v0r c I)) (k0_pay12 mk (q0 I) (kk0 c I) (v0r c I))
    (k0_pay13 mk (q0 I) (kk0 c I) (v0r c I)) (k0_pay14 (q0 I)) (k0_pay15 (kk0 c I))
/-- The same of batch 1. -/
def P1 : FVec F S128x512 .f32 :=
  k0_pay25 (woV I) mk (k0_pay18 (wqV I) (x1 I)) (k0_pay19 (k1r c I)) (k0_pay20 (v1r c I)) (k0_pay21 (wqV I) mk (x1 I) (k1r c I) (v1r c I))
    (k0_pay22 (v1r c I)) (k0_pay23 (wqV I) mk (x1 I) (k1r c I)) (k0_pay24 (wqV I) mk (x1 I) (k1r c I))
def S1 : FVec F S1x128x512 .bf16 :=
  k0_pay26 (woV I) mk (k0_pay18 (wqV I) (x1 I)) (k0_pay19 (k1r c I)) (k0_pay20 (v1r c I)) (k0_pay21 (wqV I) mk (x1 I) (k1r c I) (v1r c I))
    (k0_pay22 (v1r c I)) (k0_pay23 (wqV I) mk (x1 I) (k1r c I)) (k0_pay24 (wqV I) mk (x1 I) (k1r c I))

/-- The send buffer's first half once both batches are staged (its second half not meant). -/
def sf0 : (cc0_scratch0 : Ref sig .tc).ty.Contents (Elt F) := fun j =>
  if h : (j 1).val < 128 then S0 c I (ix3 0 ⟨(j 1).val, h⟩ (j 2))
  else S1 c I (ix3 0 ⟨(j 1).val - 128, by have : (j 1).val < 256 := (j 1).isLt; omega⟩ (j 2))

/-- Piece `i` of a receive buffer holding `f`. -/
def rd (i : Fin 16) (f : (cc0_scratch1 : Ref sig .tc).ty.Contents (Elt F)) : Vec F S1x64x256 .bf16 := (a7.access (pR i)).read (Elt F) f

end One

variable (A : Dev nD → Ins F) (c : Dev nD)

/-- What arrives at device `c` by first-exchange transfer `j`. -/
def cv (j : Fin 8) : Vec F S1x64x256 .bf16 := rd (lo j) (sf0 (peer (lo j) c) (A (peer (lo j) c)))

/-- The sum of piece `j` after the first exchange, held wide. -/
def accF : Fin 8 → FVec F S64x256 .f32 := fun
  | 0 => k0_pay28 (k0_pay27 (P0 c (A c))) (cv A c 0)
  | 1 => k0_pay30 (k0_pay27 (P0 c (A c))) (cv A c 1)
  | 2 => k0_pay34 (k0_pay33 (P0 c (A c))) (cv A c 2)
  | 3 => k0_pay36 (k0_pay33 (P0 c (A c))) (cv A c 3)
  | 4 => k0_pay39 (k0_pay38 (P1 c (A c))) (cv A c 4)
  | 5 => k0_pay41 (k0_pay38 (P1 c (A c))) (cv A c 5)
  | 6 => k0_pay44 (P1 c (A c)) (cv A c 6)
  | 7 => k0_pay47 (k0_pay43 (P1 c (A c))) (cv A c 7)

/-- The same as stored for the second exchange. -/
def accS : Fin 8 → FVec F S1x64x256 .bf16 := fun
  | 0 => k0_pay29 (k0_pay27 (P0 c (A c))) (cv A c 0)
  | 1 => k0_pay32 (k0_pay31 (k0_pay27 (P0 c (A c))) (cv A c 1))
  | 2 => k0_pay35 (k0_pay33 (P0 c (A c))) (cv A c 2)
  | 3 => k0_pay37 (k0_pay33 (P0 c (A c))) (cv A c 3)
  | 4 => k0_pay40 (k0_pay38 (P1 c (A c))) (cv A c 4)
  | 5 => k0_pay42 (k0_pay38 (P1 c (A c))) (cv A c 5)
  | 6 => k0_pay46 (k0_pay45 (P1 c (A c)) (cv A c 6))
  | 7 => k0_pay48 (k0_pay43 (P1 c (A c))) (cv A c 7)

/-- Which of the eight pieces of a half an element at row `r`, column `n` lies in. -/
def pieceOf (r n : Nat) : Nat := r / 64 * 2 + n / 256
/-- There are eight pieces in a half. -/
theorem pieceOf_lt {r n : Nat} (hr : r < 256) (hn : n < 512) : pieceOf r n < 8 := by unfold pieceOf; omega
/-- An element found at offset `a`, `b` of piece `i` lies in piece `i`. -/
theorem pieceOf_eq {i r n a b : Nat} (hr : r = 64 * (i / 2) + a) (ha : a < 64) (hn : n = 256 * (i % 2) + b) (hb : b < 256) :
    pieceOf r n = i := by unfold pieceOf; omega

/-- The send buffer as the transfers read it: the staged shares, then the sums of the first exchange. -/
def SF : (cc0_scratch0 : Ref sig .tc).ty.Contents (Elt F) := fun j =>
  if (j 0).val = 0 then sf0 c (A c) j
  else accS A c ⟨pieceOf (j 1).val (j 2).val, by
      exact pieceOf_lt (r := (j 1).val) (n := (j 2).val) (j 1).isLt (j 2).isLt⟩ (ix3 0 ⟨(j 1).val % 64, Nat.mod_lt _ (by decide)⟩ ⟨(j 2).val % 256, Nat.mod_lt _ (by decide)⟩)

/-- What arrives at device `c` by transfer `i`. -/
def cvF (i : Fin 16) : Vec F S1x64x256 .bf16 := rd i (SF A (peer i c))

/-- Piece `j` of the result. -/
def outP : Fin 8 → FVec F S1x64x256 .bf16 := fun
  | 0 => k0_pay49 (accF A c 0) (cvF A c 8)
  | 1 => k0_pay50 (accF A c 1) (cvF A c 9)
  | 2 => k0_pay51 (accF A c 2) (cvF A c 10)
  | 3 => k0_pay52 (accF A c 3) (cvF A c 11)
  | 4 => k0_pay53 (accF A c 4) (cvF A c 12)
  | 5 => k0_pay54 (accF A c 5) (cvF A c 13)
  | 6 => k0_pay55 (accF A c 6) (cvF A c 14)
  | 7 => k0_pay1 (k0_pay56 (accF A c 7) (cvF A c 15))

/-- The device's result. -/
def outF : (cc0_stg5_0 : Ref sig .tc).ty.Contents (Elt F) := fun j =>
  outP A c ⟨pieceOf (128 * (j 0).val + (j 1).val) (j 2).val, by
      have h0 : (j 0).val < 2 := (j 0).isLt
      have h1 : (j 1).val < 128 := (j 1).isLt
      exact pieceOf_lt (r := 128 * (j 0).val + (j 1).val) (n := (j 2).val) (by omega) (j 2).isLt⟩ (ix3 0 ⟨(j 1).val % 64, Nat.mod_lt _ (by decide)⟩ ⟨(j 2).val % 256, Nat.mod_lt _ (by decide)⟩)

/-! ## Reading the named contents piece by piece -/

/-- Piece `lo j` of the send buffer is a first-exchange piece. -/
theorem rd_SF_lo (j : Fin 8) (d : Dev nD) : rd (lo j) (SF A d) = rd (lo j) (sf0 d (A d)) := by
  funext y
  refine if_pos ?_
  have h : (y 0).val < 1 := (y 0).isLt
  have e : j.val / 8 = 0 := by omega
  show j.val / 8 + 1 * (y 0).val = 0
  omega

/-- What a first-exchange transfer brings is read off the staged shares. -/
theorem cvF_lo (j : Fin 8) : cvF A c (lo j) = cv A c j := rd_SF_lo A j _

/-- On a first-exchange index of the upper half of the rows the send buffer holds batch 0's share. -/
theorem SF_batch0 (y : S1x128x512.Idx) (j : (cc0_scratch0 : Ref sig .tc).ty.shape.Idx)
    (e0 : (j 0).val = 0) (e1 : (j 1).val = (y 1).val) (e2 : (j 2).val = (y 2).val) : SF A c j = S0 c (A c) y := by
  have h0 : (y 0).val < 1 := (y 0).isLt
  have h1 : (y 1).val < 128 := (y 1).isLt
  unfold SF; rw [if_pos e0]; unfold sf0; rw [dif_pos (by omega)]
  refine congrArg (S0 c (A c)) ?_
  funext a; match a with
    | ⟨0, _⟩ => exact Fin.ext (by show 0 = (y 0).val; omega)
    | ⟨1, _⟩ => exact Fin.ext e1
    | ⟨2, _⟩ => exact Fin.ext e2

/-- On one of the lower half it holds batch 1's. -/
theorem SF_batch1 (y : S1x128x512.Idx) (j : (cc0_scratch0 : Ref sig .tc).ty.shape.Idx)
    (e0 : (j 0).val = 0) (e1 : (j 1).val = 128 + (y 1).val) (e2 : (j 2).val = (y 2).val) : SF A c j = S1 c (A c) y := by
  have h0 : (y 0).val < 1 := (y 0).isLt
  have h1 : (y 1).val < 128 := (y 1).isLt
  unfold SF; rw [if_pos e0]; unfold sf0; rw [dif_neg (by omega)]
  refine congrArg (S1 c (A c)) ?_
  funext a; match a with
    | ⟨0, _⟩ => exact Fin.ext (by show 0 = (y 0).val; omega)
    | ⟨1, _⟩ => exact Fin.ext (by show (j 1).val - 128 = (y 1).val; omega)
    | ⟨2, _⟩ => exact Fin.ext e2

/-- On an index of second-exchange piece `i` it holds the stored sum of that piece. -/
theorem SF_acc (i : Fin 8) (y : S1x64x256.Idx) (j : (cc0_scratch0 : Ref sig .tc).ty.shape.Idx)
    (e0 : (j 0).val = 1) (e1 : (j 1).val = 64 * (i.val / 2 % 4) + (y 1).val) (e2 : (j 2).val = 256 * (i.val % 2) + (y 2).val) :
    SF A c j = accS A c i y := by
  have h0 : (y 0).val < 1 := (y 0).isLt
  have h1 : (y 1).val < 64 := (y 1).isLt
  have h2 : (y 2).val < 256 := (y 2).isLt
  have hi := i.isLt
  unfold SF; rw [if_neg (by omega)]
  refine congrArg₂ (accS A c) (Fin.ext (pieceOf_eq (by omega) h1 e2 h2)) ?_
  funext a; match a with
    | ⟨0, _⟩ => exact Fin.ext (by show 0 = (y 0).val; omega)
    | ⟨1, _⟩ => exact Fin.ext (by show (j 1).val % 64 = (y 1).val; omega)
    | ⟨2, _⟩ => exact Fin.ext (by show (j 2).val % 256 = (y 2).val; omega)

/-- On an index of result piece `i` the result is that piece. -/
theorem outF_piece (i : Fin 8) (y : S1x64x256.Idx) (j : (cc0_stg5_0 : Ref sig .tc).ty.shape.Idx)
    (e0 : (j 0).val = i.val / 4) (e1 : (j 1).val = 64 * (i.val / 2 % 2) + (y 1).val) (e2 : (j 2).val = 256 * (i.val % 2) + (y 2).val) :
    outF A c j = outP A c i y := by
  have h0 : (y 0).val < 1 := (y 0).isLt
  have h1 : (y 1).val < 64 := (y 1).isLt
  have h2 : (y 2).val < 256 := (y 2).isLt
  have hi := i.isLt
  unfold outF
  refine congrArg₂ (outP A c) (Fin.ext (pieceOf_eq (by omega) h1 e2 h2)) ?_
  funext a; match a with
    | ⟨0, _⟩ => exact Fin.ext (by show 0 = (y 0).val; omega)
    | ⟨1, _⟩ => exact Fin.ext (by show (j 1).val % 64 = (y 1).val; omega)
    | ⟨2, _⟩ => exact Fin.ext (by show (j 2).val % 256 = (y 2).val; omega)

end Cert.KernelIdeal.Tp

end
-- ==== Proof.Protocol.lean ====
/-
  The protocol by which the devices hand each other the pieces of their receive buffers and then the sixteen transfers:
  who raises which semaphore, what comes with the raise, and what each device owes.
-/
module

public import proofs.«01_k».proof.Proof.Values
public import Idealize.ShloMosaic.Lib.Rounds
public import Idealize.ShloMosaic.Lib.Ring
public import Idealize.ShloMosaic.Lib.Pipeline.Launch
public import Idealize.ShloMosaic.Lib.Pipeline.RegionTalk
public import Idealize.SL.ProofMode.BigOp

@[expose] public section

set_option maxRecDepth 16384

noncomputable section

namespace Cert.KernelIdeal.Tp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

/-! ## The resource algebra: the pipeline's copy and the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Cells -/

abbrev barCell (c : Dev nD) : GSem nD τ sig := ((c : Thread nD τ), .reg barS)
abbrev sndCell (c : Dev nD) (i : Fin 16) : GSem nD τ sig := ((c : Thread nD τ), .dma (sS i))
abbrev rcvCell (c : Dev nD) (i : Fin 16) : GSem nD τ sig := ((c : Thread nD τ), .dma (rS i))

/-- What a semaphore is for: the meeting at the start, a transfer's departure, a transfer's arrival, or something else. -/
inductive Kind
  | bar
  | snd (i : Fin 16)
  | rcv (i : Fin 16)
  | other
deriving DecidableEq

def kind : SemLoc sig → Kind
  | .reg s => if s = barS then .bar else .other
  | .dma q =>
    if h : 6 ≤ q.val ∧ q.val < 22 then .snd ⟨q.val - 6, by omega⟩
    else if h' : 22 ≤ q.val then .rcv ⟨q.val - 22, by have : q.val < 38 := q.isLt; omega⟩
    else .other

/-- The barrier semaphore is the meeting's. -/
theorem kind_bar : kind (.reg barS) = .bar := by unfold kind; exact if_pos rfl
/-- Transfer `i`'s departure semaphore is recognised as that. -/
theorem kind_snd (i : Fin 16) : kind (.dma (sS i)) = .snd i := by revert i; decide
/-- Transfer `i`'s arrival semaphore is recognised as that. -/
theorem kind_rcv (i : Fin 16) : kind (.dma (rS i)) = .rcv i := by revert i; decide

/-! ## The pieces -/

abbrev sendM (i : Fin 16) : Memref sig .tc .vmem S64x256 .bf16 := (a6.slice (pR i) (fun _ => rfl)).squeeze S64x256 squeezes_S1x64x256_S64x256
abbrev commM (i : Fin 16) : Memref sig .tc .vmem S64x256 .bf16 := (a7.slice (pR i) (fun _ => rfl)).squeeze S64x256 squeezes_S1x64x256_S64x256

/-- The elements of piece `i`. -/
abbrev pSet (i : Fin 16) : Finset S2x256x512.Idx := (pR i).set

/-- The slice transfer `i` reads is piece `i` of the send buffer. -/
theorem sendM_set (i : Fin 16) : (sendM i).view.set = pSet i := by
  show ((a6.slice (pR i) (fun _ => rfl)).squeeze S64x256 squeezes_S1x64x256_S64x256).view.set = _
  rw [Memref.set_view_squeeze]
  exact View.set_slice_whole cc0_scratch0 (pR i)
/-- The slice transfer `i` writes is piece `i` of the receive buffer. -/
theorem commM_set (i : Fin 16) : (commM i).view.set = pSet i := by
  show ((a7.slice (pR i) (fun _ => rfl)).squeeze S64x256 squeezes_S1x64x256_S64x256).view.set = _
  rw [Memref.set_view_squeeze]
  exact View.set_slice_whole cc0_scratch1 (pR i)

/-- The bytes one transfer counts on its semaphores. -/
abbrev N : ℕ := (sendM 0).view.dmaCredit
/-- A transfer counts something. -/
theorem N_pos : 0 < N := View.dmaCredit_pos _ (by decide)

/-- Piece `i` of device `c`'s send (receive) buffer, at contents `f`. -/
abbrev sP (c : Dev nD) (i : Fin 16) (f : (cc0_scratch0 : Ref sig .tc).ty.Contents (Elt F)) : sProp 𝕄 :=
  ((c : Thread nD τ).loc cc0_scratch0) ↦[pSet i]{fullShare} f
abbrev rP (c : Dev nD) (i : Fin 16) (f : (cc0_scratch1 : Ref sig .tc).ty.Contents (Elt F)) : sProp 𝕄 :=
  ((c : Thread nD τ).loc cc0_scratch1) ↦[pSet i]{fullShare} f

/-- A receive piece of device `c` that may be written by transfer `i`, its arrival semaphore being in use. -/
def rFree (c : Dev nD) (i : Fin 16) : sProp 𝕄 := iprop((∃ f, rP c i f) ∗ reached ER (rcvCell c i) 0)

/-- What the neighbour of class `b` gives device `c` with its raise of the meeting semaphore: the pieces of its receive
    buffer that `c` writes. -/
def barPay (c : Dev nD) (b : Bool) : sProp 𝕄 :=
  bigSep Finset.univ fun i : Fin 16 => if cls i = b then rFree (nb b c) i else iprop(emp)

section Sched

variable [FloatOps F] (A : Dev nD → Ins F)

/-- One round on every semaphore of the protocol: the meeting semaphore is raised by both neighbours, each transfer's two
    semaphores once. -/
def rd0 : Rounds.Schedule (GSem nD τ sig) Bool 𝕄 where
  duties g r := if r = 0 ∧ g.1.2 = .tc then
      match kind g.2 with | .bar => {false, true} | .snd _ => {false} | .rcv _ => {false} | .other => ∅
    else ∅
  unitless _ := False
  amount g _ _ := if kind g.2 = .bar then 1 else N
  payload g _ d := match kind g.2 with
    | .bar => barPay g.1.1 d
    | .snd i => sP g.1.1 i (SF A g.1.1)
    | .rcv i => rP g.1.1 i (SF A (peer i g.1.1))
    | .other => iprop(emp)
  amount_pos g _ _ _ := by
    by_cases h : kind g.2 = .bar
    · rw [if_pos h]; exact Nat.one_pos
    · rw [if_neg h]; exact N_pos

instance rd0_payload_storable (g : GSem nD τ sig) (r : ℕ) (d : Bool) :
    BI.Storable (upEmb : UEmb _ 𝕄) ((rd0 A).payload g r d) := by
  show BI.Storable upEmb (match kind g.2 with
    | .bar => barPay g.1.1 d
    | .snd i => sP g.1.1 i (SF A g.1.1)
    | .rcv i => rP g.1.1 i (SF A (peer i g.1.1))
    | .other => (iprop(emp) : sProp 𝕄))
  unfold barPay rFree
  split
  · have : ∀ i : Fin 16, BI.Storable (upEmb : UEmb _ 𝕄) (if cls i = d
        then (iprop((∃ f, rP (nb d g.1.1) i f) ∗ reached ER (rcvCell (nb d g.1.1) i) 0) : sProp 𝕄) else iprop(emp)) := fun i => by
      split <;> infer_instance
    infer_instance
  · infer_instance
  · infer_instance
  · infer_instance

variable (c : Dev nD) (i : Fin 16)

/-- The meeting is raised by both neighbours. -/
theorem duties_bar : (rd0 A).duties (barCell c) 0 = {false, true} := by
  dsimp only [rd0]; rw [if_pos ⟨rfl, rfl⟩, kind_bar]
/-- A departure semaphore is raised once. -/
theorem duties_snd : (rd0 A).duties (sndCell c i) 0 = {false} := by
  dsimp only [rd0]; rw [if_pos ⟨rfl, rfl⟩, kind_snd]
/-- An arrival semaphore is raised once. -/
theorem duties_rcv : (rd0 A).duties (rcvCell c i) 0 = {false} := by
  dsimp only [rd0]; rw [if_pos ⟨rfl, rfl⟩, kind_rcv]
/-- Nothing is raised in any later round. -/
theorem duties_later (g : GSem nD τ sig) : ∀ r, 1 ≤ r → (rd0 A).duties g r = ∅ := fun r hr => by
  dsimp only [rd0]; rw [if_neg (fun h => by omega)]
/-- Each raise of the meeting counts one. -/
theorem amount_bar (u : Bool) : (rd0 A).amount (barCell c) 0 u = 1 := by dsimp only [rd0]; exact if_pos kind_bar
/-- A departure counts the transfer's bytes. -/
theorem amount_snd (u : Bool) : (rd0 A).amount (sndCell c i) 0 u = N := by
  dsimp only [rd0]; rw [kind_snd, if_neg (by simp)]
/-- An arrival counts the transfer's bytes. -/
theorem amount_rcv (u : Bool) : (rd0 A).amount (rcvCell c i) 0 u = N := by
  dsimp only [rd0]; rw [kind_rcv, if_neg (by simp)]
/-- The meeting is complete at two. -/
theorem expect_bar : (rd0 A).expect (barCell c) 0 = 2 := by
  unfold Schedule.expect Schedule.amountOf
  rw [duties_bar, Finset.sum_insert (by decide), Finset.sum_singleton, amount_bar, amount_bar]
/-- A departure is complete at the transfer's bytes. -/
theorem expect_snd : (rd0 A).expect (sndCell c i) 0 = N := by
  unfold Schedule.expect Schedule.amountOf; rw [duties_snd, Finset.sum_singleton, amount_snd]
/-- An arrival is complete at the transfer's bytes. -/
theorem expect_rcv : (rd0 A).expect (rcvCell c i) 0 = N := by
  unfold Schedule.expect Schedule.amountOf; rw [duties_rcv, Finset.sum_singleton, amount_rcv]
/-- A raise of the meeting hands over the neighbour's pieces. -/
theorem payload_bar (u : Bool) : (rd0 A).payload (barCell c) 0 u = barPay c u := by
  dsimp only [rd0]; rw [kind_bar]
/-- A departure hands back the piece sent. -/
theorem payload_snd (u : Bool) : (rd0 A).payload (sndCell c i) 0 u = sP c i (SF A c) := by
  dsimp only [rd0]; rw [kind_snd]
/-- An arrival hands over the piece received, holding what the partner sent. -/
theorem payload_rcv (u : Bool) : (rd0 A).payload (rcvCell c i) 0 u = rP c i (SF A (peer i c)) := by
  dsimp only [rd0]; rw [kind_rcv]
/-- The whole meeting hands over both neighbours' pieces. -/
theorem rest_bar : bigSep ((rd0 A).duties (barCell c) 0 \ ∅) (fun u => (rd0 A).payload (barCell c) 0 u)
    = iprop(barPay c false ∗ barPay c true) := by
  rw [Finset.sdiff_empty, duties_bar, bigSep_insert (by decide), bigSep_singleton, payload_bar, payload_bar]; rfl
/-- The whole of a departure hands back the piece sent. -/
theorem rest_snd : bigSep ((rd0 A).duties (sndCell c i) 0 \ ∅) (fun u => (rd0 A).payload (sndCell c i) 0 u) = sP c i (SF A c) := by
  rw [Finset.sdiff_empty, duties_snd, bigSep_singleton, payload_snd]
/-- The whole of an arrival hands over the piece received. -/
theorem rest_rcv : bigSep ((rd0 A).duties (rcvCell c i) 0 \ ∅) (fun u => (rd0 A).payload (rcvCell c i) 0 u)
    = rP c i (SF A (peer i c)) := by
  rw [Finset.sdiff_empty, duties_rcv, bigSep_singleton, payload_rcv]

end Sched

/-! ## What a device owes, and the levels -/

/-- The arrivals device `c` still has to cause once it has started the first `s` transfers. -/
def owe (c : Dev nD) (s : ℕ) : CellTallies nD τ sig Unit :=
  ∑ i : Fin 16, if s ≤ i.val then tallyAt (rcvCell (peer i c) i) () N else 0

/-- Starting transfer `i` settles the arrival of transfer `i` and nothing else. -/
theorem owe_step (c : Dev nD) (i : Fin 16) : owe c i.val = owe c (i.val + 1) + tallyAt (rcvCell (peer i c) i) () N := by
  unfold owe
  rw [← Finset.add_sum_erase _ _ (Finset.mem_univ i), ← Finset.add_sum_erase (a := i) Finset.univ _ (Finset.mem_univ i),
    if_pos (le_refl _), if_neg (by omega), zero_add, add_comm]
  congr 1
  refine Finset.sum_congr rfl fun k hk => ?_
  have hne : k.val ≠ i.val := fun h => Finset.ne_of_mem_erase hk (Fin.ext h)
  by_cases h : i.val ≤ k.val
  · rw [if_pos h, if_pos (by omega)]
  · rw [if_neg h, if_neg (by omega)]

/-- Once all sixteen transfers are started no arrival is owed. -/
theorem owe_done (c : Dev nD) : owe c 16 = 0 := by
  unfold owe
  exact Finset.sum_eq_zero fun k _ => if_neg (by have := k.isLt; omega)

/-- Every arrival still owed is that of a transfer not yet started. -/
theorem owe_pos {c : Dev nD} {s : ℕ} {g : GSem nD τ sig} {u : Unit} (h : 0 < owe c s g u) :
    ∃ i : Fin 16, s ≤ i.val ∧ g = rcvCell (peer i c) i := by
  unfold owe at h
  rw [Finset.sum_apply, Finsupp.finsetSum_apply] at h
  obtain ⟨i, -, hi⟩ := Finset.exists_ne_zero_of_sum_ne_zero (Nat.pos_iff_ne_zero.mp h)
  refine ⟨i, ?_⟩
  by_cases hs : s ≤ i.val
  · refine ⟨hs, ?_⟩
    rw [if_pos hs, tallyAt_apply] at hi
    by_cases hg : g = rcvCell (peer i c) i ∧ u = ()
    · exact hg.1
    · rw [if_neg hg] at hi; exact absurd rfl hi
  · rw [if_neg hs] at hi; exact absurd rfl hi

/-- What device `c` owes: at the start also a raise of each neighbour's meeting semaphore. -/
def owed (c : Dev nD) (p s : ℕ) : CellTallies nD τ sig Unit :=
  owe c s + ((if p ≤ 1 then tallyAt (barCell (p2 c)) () 1 else 0) + if p = 0 then tallyAt (barCell (p1 c)) () 1 else 0)

/-- The first raise of the meeting settles what is owed to the first neighbour. -/
theorem owed_0 (c : Dev nD) (s : ℕ) : owed c 0 s = owed c 1 s + tallyAt (barCell (p1 c)) () 1 := by
  unfold owed; rw [if_pos (by decide), if_pos rfl, if_pos (by decide), if_neg (by decide), add_zero, add_assoc]
/-- The second raise settles what is owed to the second neighbour. -/
theorem owed_1 (c : Dev nD) (s : ℕ) : owed c 1 s = owed c 2 s + tallyAt (barCell (p2 c)) () 1 := by
  unfold owed; rw [if_pos (by decide), if_neg (by decide), if_neg (by decide), if_neg (by decide), add_zero, add_zero, add_zero]
/-- After both raises only arrivals are owed. -/
theorem owed_late (c : Dev nD) (p s : ℕ) (hp : 2 ≤ p) : owed c p s = owe c s := by
  unfold owed; rw [if_neg (by omega), if_neg (by omega), add_zero, add_zero]

def L (g : GSem nD τ sig) : Finset Unit := if g.1.2 = .tc then {()} else ∅
/-- The meeting at 1, the first exchange's arrivals at 2, the second's at 3, everything else at 0. -/
def lv (g : GSem nD τ sig) (_ : Unit) : ℕ := match kind g.2 with
  | .bar => 1 | .rcv i => if i.val < 8 then 2 else 3 | _ => 0

/-- Semaphores off the core carry no level. -/
theorem L_of_ne (g : GSem nD τ sig) (h : g.1.2 ≠ .tc) : L g = ∅ := if_neg h
/-- Every semaphore of the core carries a level. -/
theorem L_tc (c : Dev nD) (sm : SemLoc sig) : L ((c : Thread nD τ), sm) = {()} := if_pos rfl
/-- The meeting's level. -/
theorem lv_bar (c : Dev nD) (u : Unit) : lv (barCell c) u = 1 := by dsimp only [lv]; rw [kind_bar]
/-- A departure's level. -/
theorem lv_snd (c : Dev nD) (i : Fin 16) (u : Unit) : lv (sndCell c i) u = 0 := by dsimp only [lv]; rw [kind_snd]
/-- An arrival's level, by its exchange. -/
theorem lv_rcv (c : Dev nD) (i : Fin 16) (u : Unit) : lv (rcvCell c i) u = if i.val < 8 then 2 else 3 := by
  dsimp only [lv]; rw [kind_rcv]

/-- A device may wait on a semaphore of a lower level than every arrival it still owes. -/
theorem mayWait (c : Dev nD) (sm : SemLoc sig) (s n : ℕ) (hn : lv ((c : Thread nD τ), sm) () ≤ n)
    (h : ∀ i : Fin 16, s ≤ i.val → n < if i.val < 8 then 2 else 3) :
    (levAts L lv : sProp 𝕄) ⊢ MayWait (c : Thread nD τ) sm () (owe c s) :=
  MayOwe.of_cut (L := L) (lev := lv) n (fun p hp => by rw [Finset.mem_singleton.mp hp, L_tc]; exact Finset.mem_singleton_self _)
    (fun g u hg => by obtain ⟨i, -, rfl⟩ := owe_pos hg; rw [L_tc]; exact Finset.mem_singleton_self _)
    (fun p hp => by rw [Finset.mem_singleton.mp hp]; exact hn)
    (fun g u hg => by obtain ⟨i, hi, rfl⟩ := owe_pos hg; rw [lv_rcv]; exact h i hi)

end Cert.KernelIdeal.Tp

end
-- ==== Proof.State.lean ====
/-
  What a device holds between two operations of the kernel, by how far it has come, and how each operation moves it on.
-/
module

public import proofs.«01_k».proof.Proof.Protocol

@[expose] public section

set_option maxRecDepth 16384

noncomputable section

namespace Cert.KernelIdeal.Tp

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

local notation "𝕄" => MT nD τ sig Unit (Elt F) ℕ UU ℕ

/-! ## The pieces cut the buffers -/

/-- An index of the send or receive buffer is in the piece its coordinates name and no other. -/
theorem mem_pSet (i : Fin 16) (x : S2x256x512.Idx) :
    x ∈ pSet i ↔ i.val = 8 * (x 0).val + pieceOf (x 1).val (x 2).val := by
  have h0 : (x 0).val < 2 := (x 0).isLt
  have h1 : (x 1).val < 256 := (x 1).isLt
  have h2 : (x 2).val < 512 := (x 2).isLt
  have hi := i.isLt
  rw [Rect.mem_set_unit]
  unfold pieceOf
  constructor
  · intro h
    have e0 : i.val / 8 ≤ (x 0).val ∧ (x 0).val < i.val / 8 + 1 := h 0
    have e1 : 64 * (i.val / 2 % 4) ≤ (x 1).val ∧ (x 1).val < 64 * (i.val / 2 % 4) + 64 := h 1
    have e2 : 256 * (i.val % 2) ≤ (x 2).val ∧ (x 2).val < 256 * (i.val % 2) + 256 := h 2
    omega
  · intro h a
    match a with
    | ⟨0, _⟩ => show i.val / 8 ≤ (x 0).val ∧ (x 0).val < i.val / 8 + 1; omega
    | ⟨1, _⟩ => show 64 * (i.val / 2 % 4) ≤ (x 1).val ∧ (x 1).val < 64 * (i.val / 2 % 4) + 64; omega
    | ⟨2, _⟩ => show 256 * (i.val % 2) ≤ (x 2).val ∧ (x 2).val < 256 * (i.val % 2) + 256; omega

/-- Different pieces of a buffer do not overlap. -/
theorem pSet_disjoint (i k : Fin 16) (h : i ≠ k) : Disjoint (pSet i) (pSet k) := by
  rw [Finset.disjoint_left]
  intro x hi hk
  exact h (Fin.ext (((mem_pSet i x).mp hi).trans ((mem_pSet k x).mp hk).symm))

/-- The sixteen pieces make up the buffer. -/
theorem pSet_cover : (Finset.univ.biUnion pSet : Finset S2x256x512.Idx) = Finset.univ := by
  ext x
  simp only [Finset.mem_biUnion, Finset.mem_univ, true_and, iff_true]
  have h0 : (x 0).val < 2 := (x 0).isLt
  have hp := pieceOf_lt (r := (x 1).val) (n := (x 2).val) (x 1).isLt (x 2).isLt
  exact ⟨⟨8 * (x 0).val + pieceOf (x 1).val (x 2).val, by omega⟩, (mem_pSet _ x).mpr rfl⟩

/-- The elements of result piece `j`. -/
abbrev oSet (j : Fin 8) : Finset S2x128x512.Idx := (oR j).set

/-- Which piece of the result an element lies in. -/
theorem mem_oSet (j : Fin 8) (x : S2x128x512.Idx) :
    x ∈ oSet j ↔ j.val = pieceOf (128 * (x 0).val + (x 1).val) (x 2).val := by
  have h0 : (x 0).val < 2 := (x 0).isLt
  have h1 : (x 1).val < 128 := (x 1).isLt
  have h2 : (x 2).val < 512 := (x 2).isLt
  have hi := j.isLt
  rw [Rect.mem_set_unit]
  unfold pieceOf
  constructor
  · intro h
    have e0 : j.val / 4 ≤ (x 0).val ∧ (x 0).val < j.val / 4 + 1 := h 0
    have e1 : 64 * (j.val / 2 % 2) ≤ (x 1).val ∧ (x 1).val < 64 * (j.val / 2 % 2) + 64 := h 1
    have e2 : 256 * (j.val % 2) ≤ (x 2).val ∧ (x 2).val < 256 * (j.val % 2) + 256 := h 2
    omega
  · intro h a
    match a with
    | ⟨0, _⟩ => show j.val / 4 ≤ (x 0).val ∧ (x 0).val < j.val / 4 + 1; omega
    | ⟨1, _⟩ => show 64 * (j.val / 2 % 2) ≤ (x 1).val ∧ (x 1).val < 64 * (j.val / 2 % 2) + 64; omega
    | ⟨2, _⟩ => show 256 * (j.val % 2) ≤ (x 2).val ∧ (x 2).val < 256 * (j.val % 2) + 256; omega

/-- Different pieces of the result do not overlap. -/
theorem oSet_disjoint (i k : Fin 8) (h : i ≠ k) : Disjoint (oSet i) (oSet k) := by
  rw [Finset.disjoint_left]
  intro x hi hk
  exact h (Fin.ext (((mem_oSet i x).mp hi).trans ((mem_oSet k x).mp hk).symm))

/-- The eight pieces make up the result. -/
theorem oSet_cover : (Finset.univ.biUnion oSet : Finset S2x128x512.Idx) = Finset.univ := by
  ext x
  simp only [Finset.mem_biUnion, Finset.mem_univ, true_and, iff_true]
  have h0 : (x 0).val < 2 := (x 0).isLt
  have h1 : (x 1).val < 128 := (x 1).isLt
  exact ⟨⟨_, pieceOf_lt (r := 128 * (x 0).val + (x 1).val) (n := (x 2).val) (by omega) (x 2).isLt⟩, (mem_oSet _ x).mpr rfl⟩

/-- The two halves of the send buffer's first part: batch 0's rows and batch 1's. -/
abbrev hOff (h : Fin 2) : Fin 3 → Nat := ![0, 128 * h.val, 0]
/-- Each half lies inside the buffer. -/
theorem hInb (h : Fin 2) : ∀ a, hOff h a + S1x128x512.size a ≤ S2x256x512.size a := by revert h; decide
abbrev hR (h : Fin 2) : Rect S2x256x512 := Rect.unit (s := S2x256x512) (hOff h) S1x128x512.size (hInb h)
/-- Piece `k` of half `h`. -/
abbrev hp (h : Fin 2) (k : Fin 4) : Fin 16 := ⟨4 * h.val + k.val, by omega⟩
/-- The four pieces of a half are different. -/
theorem hp_inj (h : Fin 2) : Function.Injective (hp h) := fun a b e => Fin.ext (by have := congrArg Fin.val e; simp only at this; omega)

/-- The four pieces of a half make up the half. -/
theorem hSet_cover (h : Fin 2) : (Finset.univ.biUnion fun k => pSet (hp h k) : Finset S2x256x512.Idx) = (hR h).set := by
  ext x
  have h0 : (x 0).val < 2 := (x 0).isLt
  have h1 : (x 1).val < 256 := (x 1).isLt
  have h2 : (x 2).val < 512 := (x 2).isLt
  have hh := h.isLt
  simp only [Finset.mem_biUnion, Finset.mem_univ, true_and]
  rw [Rect.mem_set_unit]
  constructor
  · rintro ⟨k, hk⟩ a
    have hk' := k.isLt
    have e : 4 * h.val + k.val = 8 * (x 0).val + pieceOf (x 1).val (x 2).val := (mem_pSet _ x).mp hk
    unfold pieceOf at e
    match a with
    | ⟨0, _⟩ => show 0 ≤ (x 0).val ∧ (x 0).val < 0 + 1; omega
    | ⟨1, _⟩ => show 128 * h.val ≤ (x 1).val ∧ (x 1).val < 128 * h.val + 128; omega
    | ⟨2, _⟩ => show 0 ≤ (x 2).val ∧ (x 2).val < 0 + 512; omega
  · intro H
    have e0 : 0 ≤ (x 0).val ∧ (x 0).val < 0 + 1 := H 0
    have e1 : 128 * h.val ≤ (x 1).val ∧ (x 1).val < 128 * h.val + 128 := H 1
    refine ⟨⟨pieceOf (x 1).val (x 2).val - 4 * h.val, by unfold pieceOf; omega⟩, (mem_pSet _ x).mpr ?_⟩
    show 4 * h.val + (pieceOf (x 1).val (x 2).val - 4 * h.val) = _
    unfold pieceOf; omega

/-! ## What is written on a piece -/

/-- A write through a rectangle of the whole send buffer, read on the rectangle. -/
theorem write6 (r : Rect S2x256x512) (f g : (cc0_scratch0 : Ref sig .tc).ty.Contents (Elt F)) (v : Vec F r.shape .bf16)
    (h : ∀ y, g (r.emb y) = v y) : ∀ x ∈ r.set, (a6.access r).write (Elt F) f v Finset.univ x = g x := by
  intro x hx
  rw [← Rect.map_emb_univ] at hx
  obtain ⟨y, -, rfl⟩ := Finset.mem_map.mp hx
  exact ((a6.access r).write_emb_of_mem f v (Finset.mem_univ y)).trans (h y).symm

/-- The same of the whole result. -/
theorem write5 (r : Rect S2x128x512) (f g : (cc0_stg5_0 : Ref sig .tc).ty.Contents (Elt F)) (v : Vec F r.shape .bf16)
    (h : ∀ y, g (r.emb y) = v y) : ∀ x ∈ r.set, (a5.access r).write (Elt F) f v Finset.univ x = g x := by
  intro x hx
  rw [← Rect.map_emb_univ] at hx
  obtain ⟨y, -, rfl⟩ := Finset.mem_map.mp hx
  exact ((a5.access r).write_emb_of_mem f v (Finset.mem_univ y)).trans (h y).symm

/-- What lands by transfer `i` is what the sender's piece `i` held. -/
theorem landed (i : Fin 16) (fd : (cc0_scratch1 : Ref sig .tc).ty.Contents (Elt F)) (fs : (cc0_scratch0 : Ref sig .tc).ty.Contents (Elt F)) :
    ∀ x ∈ pSet i, (commM i).view.write (Elt F) fd ((sendM i).view.read (Elt F) fs) Finset.univ x = fs x := by
  intro x hx
  rw [← commM_set i] at hx
  obtain ⟨y, -, rfl⟩ := Finset.mem_map.mp hx
  exact ((commM i).view.write_emb_of_mem fd _ (Finset.mem_univ y)).trans rfl

/-- Taking one summand out of a separated family, to put another family's in its place. -/
theorem take {I : Type} [Fintype I] [DecidableEq I] (Φ Ψ : I → sProp 𝕄) (i : I) (h : ∀ k, k ≠ i → Φ k = Ψ k) :
    bigSep Finset.univ Φ ⊢ iprop(Φ i ∗ (Ψ i -∗ bigSep Finset.univ Ψ)) := by
  rw [bigSep_univ_at Φ i, bigSep_univ_at Ψ i, bigSep_congr (s := Finset.univ.erase i) (Ψ := Ψ) fun k hk => h k (Finset.ne_of_mem_erase hk)]
  iintro ⟨Hi, Hr⟩
  isplitl [Hi]; · iexact Hi
  iintro Hi
  isplitl [Hi]; · iexact Hi
  iexact Hr

/-- Taking several summands out of a separated family, to put another family's in their place. -/
theorem takeOn {I J : Type} [Fintype I] [DecidableEq I] [Fintype J] (g : J → I) (hg : Function.Injective g) (Φ Ψ : I → sProp 𝕄)
    (h : ∀ k, (∀ j, k ≠ g j) → Φ k = Ψ k) :
    bigSep Finset.univ Φ ⊢ iprop((bigSep Finset.univ fun j => Φ (g j)) ∗ ((bigSep Finset.univ fun j => Ψ (g j)) -∗ bigSep Finset.univ Ψ)) := by
  have hcut (X : I → sProp 𝕄) : bigSep Finset.univ X
      = iprop((bigSep Finset.univ fun j => X (g j)) ∗ bigSep (Finset.univ \ Finset.univ.map ⟨g, hg⟩) X) := by
    conv_lhs => rw [← Finset.union_sdiff_of_subset (Finset.subset_univ (Finset.univ.map ⟨g, hg⟩)), bigSep_union Finset.disjoint_sdiff, bigSep_map]
    rfl
  rw [hcut Φ, hcut Ψ, bigSep_congr (s := Finset.univ \ Finset.univ.map ⟨g, hg⟩) (Φ := Φ) (Ψ := Ψ) fun k hk => h k fun j e =>
    (Finset.mem_sdiff.mp hk).2 (Finset.mem_map.mpr ⟨j, Finset.mem_univ j, e.symm⟩)]
  iintro ⟨Hi, Hr⟩
  isplitl [Hi]; · iexact Hi
  iintro Hi
  isplitl [Hi]; · iexact Hi
  iexact Hr

/-- One summand of a separated family. -/
theorem pick {I : Type} [Fintype I] [DecidableEq I] (Φ : I → sProp 𝕄) (i : I) : bigSep Finset.univ Φ ⊢ Φ i :=
  bigSep_elim (Finset.mem_univ i)

/-- Summand by summand. -/
theorem each {I : Type} [Fintype I] {Φ Ψ : I → sProp 𝕄} (h : ∀ i, Φ i ⊢ Ψ i) : bigSep Finset.univ Φ ⊢ bigSep Finset.univ Ψ :=
  bigSep_mono fun i _ => h i

/-! ## The state -/

section State

variable [FloatOps F] (A : Dev nD → Ins F) (K : GSem nD τ sig → ℕ) (c : Dev nD)

/-- What every device may consult: the invariants, that the meetings are open, the levels. -/
def info : sProp 𝕄 :=
  iprop((bigSep Finset.univ fun d : Dev nD => cellInv ER (rd0 A) (K (barCell d)) (barCell d))
    ∗ (bigSep Finset.univ fun di : Dev nD × Fin 16 => cellInv ER (rd0 A) (K (sndCell di.1 di.2)) (sndCell di.1 di.2))
    ∗ (bigSep Finset.univ fun di : Dev nD × Fin 16 => cellInv ER (rd0 A) (K (rcvCell di.1 di.2)) (rcvCell di.1 di.2))
    ∗ (bigSep Finset.univ fun d : Dev nD => reached ER (barCell d) 0) ∗ levAts L lv)

instance info_persistent : BI.Persistent (info A K) := by unfold info; infer_instance

/-- Every device may consult the meeting's invariant of any device. -/
theorem info_bar (d : Dev nD) : info A K ⊢ cellInv ER (rd0 A) (K (barCell d)) (barCell d) := by
  unfold info; iintro ⟨H, -⟩; iapply (pick (fun d : Dev nD => cellInv ER (rd0 A) (K (barCell d)) (barCell d)) d); iexact H
/-- Every device may consult the invariant of any departure. -/
theorem info_snd (d : Dev nD) (i : Fin 16) : info A K ⊢ cellInv ER (rd0 A) (K (sndCell d i)) (sndCell d i) := by
  unfold info; iintro ⟨-, H, -⟩
  iapply (pick (fun di : Dev nD × Fin 16 => cellInv ER (rd0 A) (K (sndCell di.1 di.2)) (sndCell di.1 di.2)) (d, i)); iexact H
/-- Every device may consult the invariant of any arrival. -/
theorem info_rcv (d : Dev nD) (i : Fin 16) : info A K ⊢ cellInv ER (rd0 A) (K (rcvCell d i)) (rcvCell d i) := by
  unfold info; iintro ⟨-, -, H, -⟩
  iapply (pick (fun di : Dev nD × Fin 16 => cellInv ER (rd0 A) (K (rcvCell di.1 di.2)) (rcvCell di.1 di.2)) (d, i)); iexact H
/-- Every device knows that any device's meeting is open. -/
theorem info_reached (d : Dev nD) : info A K ⊢ reached ER (barCell d) 0 := by
  unfold info; iintro ⟨-, -, -, H, -⟩; iapply (pick (fun d : Dev nD => (reached ER (barCell d) 0 : sProp 𝕄)) d); iexact H
/-- Every device may consult the levels. -/
theorem info_lev : info A K ⊢ levAts L lv := by unfold info; iintro ⟨-, -, -, -, H⟩; iexact H

/-- Transfer `i` on the sending side: not started (its piece staged or not yet), on its way, or done. -/
def txR (i : Fin 16) : sProp 𝕄 :=
  iprop(atPos ER (sndCell c i) 0 ∅ 0 ∗ reached ER (sndCell c i) 0
    ∗ dutyTok ER (sndCell c i) 0 false ∗ dutyTok ER (rcvCell (peer i c) i) 0 false)
def txNew (w : ℕ) (i : Fin 16) : sProp 𝕄 :=
  iprop((if i.val < w then sP c i (SF A c) else iprop(∃ f, sP c i f)) ∗ txR c i)
def txFly (i : Fin 16) : sProp 𝕄 := iprop(cred (tallyAt (sndCell c i) () N) ∗ atPos ER (sndCell c i) 0 ∅ 0)
def txDone (i : Fin 16) : sProp 𝕄 := iprop(sP c i (SF A c) ∗ atPos ER (sndCell c i) (0 + 1) ∅ 0)
def tx (w s b : ℕ) (i : Fin 16) : sProp 𝕄 := if i.val < b then txDone A c i else if i.val < s then txFly c i else txNew A c w i

/-- Transfer `i` on the receiving side: to come, or here. -/
def rxDone (i : Fin 16) : sProp 𝕄 := iprop(rP c i (SF A (peer i c)) ∗ atPos ER (rcvCell c i) (0 + 1) ∅ 0)
def rxNew (i : Fin 16) : sProp 𝕄 := iprop(cred (tallyAt (rcvCell c i) () N) ∗ atPos ER (rcvCell c i) 0 ∅ 0)
def rx (r : ℕ) (i : Fin 16) : sProp 𝕄 := if i.val < r then rxDone A c i else rxNew c i

/-- The receive pieces it holds for writing: its own before the meeting, its neighbours' after. -/
def rm (p s : ℕ) (i : Fin 16) : sProp 𝕄 :=
  if p = 0 then rFree c i else if p = 1 then (if cls i = true then rFree c i else iprop(emp))
  else if p = 2 then iprop(emp) else if i.val < s then iprop(emp) else rFree (peer i c) i

/-- A piece of the result. -/
abbrev oP (j : Fin 8) (f : (cc0_stg5_0 : Ref sig .tc).ty.Contents (Elt F)) : sProp 𝕄 :=
  ((c : Thread nD τ).loc cc0_stg5_0) ↦[oSet j]{fullShare} f
def ot (o : ℕ) (j : Fin 8) : sProp 𝕄 := if j.val < o then oP c j (outF A c) else iprop(∃ f, oP c j f)

/-- The meeting. -/
def mt (p : ℕ) : sProp 𝕄 :=
  iprop((if p ≤ 2 then iprop(cred (tallyAt (barCell c) () 2) ∗ atPos ER (barCell c) 0 ∅ 0) else atPos ER (barCell c) (0 + 1) ∅ 0)
    ∗ (if p = 0 then dutyTok ER (barCell (p1 c)) 0 false else iprop(emp))
    ∗ (if p ≤ 1 then dutyTok ER (barCell (p2 c)) 0 true else iprop(emp)))

omit [FloatOps F] in
/-- Before any raise the device has both to make. -/
theorem mt_0 : mt (F := F) c 0 = iprop((cred (tallyAt (barCell c) () 2) ∗ atPos ER (barCell c) 0 ∅ 0)
    ∗ dutyTok ER (barCell (p1 c)) 0 false ∗ dutyTok ER (barCell (p2 c)) 0 true) := rfl
omit [FloatOps F] in
/-- After the first raise the second is left. -/
theorem mt_1 : mt (F := F) c 1 = iprop((cred (tallyAt (barCell c) () 2) ∗ atPos ER (barCell c) 0 ∅ 0)
    ∗ emp ∗ dutyTok ER (barCell (p2 c)) 0 true) := rfl
omit [FloatOps F] in
/-- After both raises the wait is left. -/
theorem mt_2 : mt (F := F) c 2 = iprop((cred (tallyAt (barCell c) () 2) ∗ atPos ER (barCell c) 0 ∅ 0) ∗ emp ∗ emp) := rfl
omit [FloatOps F] in
/-- After the wait the meeting is over. -/
theorem mt_3 : mt (F := F) c 3 = iprop(atPos ER (barCell c) (0 + 1) ∅ 0 ∗ emp ∗ emp) := rfl

/-- A transfer not reached yet is new. -/
theorem tx_new {w s b : ℕ} {i : Fin 16} (hb : b ≤ i.val) (hs : s ≤ i.val) : tx A c w s b i = txNew A c w i := by
  unfold tx; rw [if_neg (by omega), if_neg (by omega)]
/-- A transfer started and not seen off is on its way. -/
theorem tx_fly {w s b : ℕ} {i : Fin 16} (hb : b ≤ i.val) (hs : i.val < s) : tx A c w s b i = txFly c i := by
  unfold tx; rw [if_neg (by omega), if_pos hs]
/-- A transfer seen off is done. -/
theorem tx_done {w s b : ℕ} {i : Fin 16} (hb : i.val < b) : tx A c w s b i = txDone A c i := by
  unfold tx; rw [if_pos hb]
/-- Starting one transfer leaves the others as they were. -/
theorem tx_s {w b s : ℕ} {i k : Fin 16} (hs : s = i.val) (h : k ≠ i) : tx A c w s b k = tx A c w (s + 1) b k := by
  have : k.val ≠ i.val := fun e => h (Fin.ext e)
  have e : (k.val < s) = (k.val < s + 1) := propext (by omega)
  unfold tx; simp only [e]
/-- Seeing off one transfer leaves the others as they were. -/
theorem tx_b {w b s : ℕ} {i k : Fin 16} (hb : b = i.val) (h : k ≠ i) : tx A c w s b k = tx A c w s (b + 1) k := by
  have : k.val ≠ i.val := fun e => h (Fin.ext e)
  have e : (k.val < b) = (k.val < b + 1) := propext (by omega)
  unfold tx; simp only [e]
/-- Staging one piece leaves the others as they were. -/
theorem tx_w {w b s : ℕ} {i k : Fin 16} (hw : w = i.val) (h : k ≠ i) : tx A c w s b k = tx A c (w + 1) s b k := by
  have : k.val ≠ i.val := fun e => h (Fin.ext e)
  have e : (k.val < w) = (k.val < w + 1) := propext (by omega)
  unfold tx txNew; simp only [e]
/-- Staging a half leaves the pieces outside it as they were. -/
theorem tx_w4 {w b s : ℕ} {h : Fin 2} {k : Fin 16} (hw : w = 4 * h.val) (hk : ∀ j, k ≠ hp h j) : tx A c w s b k = tx A c (w + 4) s b k := by
  have e : (k.val < w) = (k.val < w + 4) := propext ⟨fun h => by omega, fun hlt => by
    by_contra hn
    exact hk ⟨k.val - 4 * h.val, by omega⟩ (Fin.ext (by show k.val = 4 * h.val + (k.val - 4 * h.val); omega))⟩
  unfold tx txNew; simp only [e]
/-- A new transfer whose piece is staged holds it at the staged contents. -/
theorem txNew_staged {w : ℕ} {i : Fin 16} (h : i.val < w) : txNew A c w i = iprop(sP c i (SF A c) ∗ txR c i) := by
  unfold txNew; rw [if_pos h]
/-- A new transfer whose piece is not staged holds it at any contents. -/
theorem txNew_raw {w : ℕ} {i : Fin 16} (h : w ≤ i.val) : txNew A c w i = iprop((∃ f, sP c i f) ∗ txR c i) := by
  unfold txNew; rw [if_neg (by omega)]
/-- A transfer not waited for yet is to come. -/
theorem rx_new {r : ℕ} {i : Fin 16} (h : r ≤ i.val) : rx A c r i = rxNew c i := by unfold rx; rw [if_neg (by omega)]
/-- A transfer waited for has come. -/
theorem rx_done {r : ℕ} {i : Fin 16} (h : i.val < r) : rx A c r i = rxDone A c i := by unfold rx; rw [if_pos h]
/-- Receiving one transfer leaves the others as they were. -/
theorem rx_r {r : ℕ} {i k : Fin 16} (hr : r = i.val) (h : k ≠ i) : rx A c r k = rx A c (r + 1) k := by
  have : k.val ≠ i.val := fun e => h (Fin.ext e)
  have e : (k.val < r) = (k.val < r + 1) := propext (by omega)
  unfold rx; simp only [e]
/-- Writing one piece of the result leaves the others as they were. -/
theorem ot_o {o : ℕ} {j k : Fin 8} (ho : o = j.val) (h : k ≠ j) : ot A c o k = ot A c (o + 1) k := by
  have : k.val ≠ j.val := fun e => h (Fin.ext e)
  have e : (k.val < o) = (k.val < o + 1) := propext (by omega)
  unfold ot; simp only [e]
omit [FloatOps F] in
/-- Before the meeting a device holds its own receive pieces. -/
theorem rm_0 (s : ℕ) (i : Fin 16) : rm (F := F) c 0 s i = rFree c i := rfl
omit [FloatOps F] in
/-- After the first raise it holds those the second neighbour writes. -/
theorem rm_1 (s : ℕ) (i : Fin 16) : rm (F := F) c 1 s i = if cls i = true then rFree c i else iprop(emp) := rfl
omit [FloatOps F] in
/-- After both raises it holds none. -/
theorem rm_2 (s : ℕ) (i : Fin 16) : rm (F := F) c 2 s i = iprop(emp) := rfl
omit [FloatOps F] in
/-- After the meeting it holds its partners' pieces for the transfers not yet started. -/
theorem rm_3 (s : ℕ) (i : Fin 16) : rm (F := F) c 3 s i = if i.val < s then iprop(emp) else rFree (peer i c) i := rfl
omit [FloatOps F] in
/-- Starting one transfer leaves the other receive pieces as they were. -/
theorem rm_s {s : ℕ} {i k : Fin 16} (hs : s = i.val) (h : k ≠ i) : rm (F := F) c 3 s k = rm c 3 (s + 1) k := by
  have : k.val ≠ i.val := fun e => h (Fin.ext e)
  have e : (k.val < s) = (k.val < s + 1) := propext (by omega)
  rw [rm_3, rm_3]; simp only [e]

/-- The blocks handed in. -/
def ins : sProp 𝕄 :=
  iprop(((c : Thread nD τ).loc cc0_stg0_0 ↦{fullShare} (A c).x) ∗ ((c : Thread nD τ).loc cc0_stg1_0 ↦{fullShare} (A c).wq)
    ∗ ((c : Thread nD τ).loc cc0_stg2_0 ↦{fullShare} (A c).k) ∗ ((c : Thread nD τ).loc cc0_stg3_0 ↦{fullShare} (A c).v)
    ∗ ((c : Thread nD τ).loc cc0_stg4_0 ↦{fullShare} (A c).wo))

/-- Device `c` at meeting phase `p`, having staged `w`, started `s`, seen off `b` and received `r` transfers and written `o`
    pieces of the result. -/
def St (p w s b r o : ℕ) : sProp 𝕄 :=
  iprop(info A K ∗ (∃ W, owes (c : Thread nD τ) (owed c p s) W) ∗ mt c p ∗ bigSep Finset.univ (tx A c w s b)
    ∗ bigSep Finset.univ (rx A c r) ∗ bigSep Finset.univ (rm c p s) ∗ bigSep Finset.univ (ot A c o) ∗ ins A c)

end State

end Cert.KernelIdeal.Tp

end
-- ==== Proof.Steps.lean ====
/-
  One operation of the kernel at a time: from the state before it to the state after it.
-/
module

public import proofs.«01_k».proof.Proof.State
public import proofs.«01_k».proof.Proof.Gen.KernelIdeal.Points

@[expose] public section

set_option maxRecDepth 16384

noncomputable section

namespace Cert.KernelIdeal.Tp

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ
local notation "ℰ" => wpE (defs₀ (F := F)) 𝒱₀

variable (F) in
/-- Programs of one core of this kernel. -/
abbrev Pg (β : Type) : Type 1 := Prog (TpuEff nD τ sig (Elt F) Λ₀ .tc) β

variable (A : Dev nD → Ins F) (K : GSem nD τ sig → ℕ) (c : Dev nD) {β : Type} {Q : β → sProp (MT nD τ sig Unit (Elt F) ℕ UU ℕ)}

/-! ## Moving one summand -/

section Rm
omit [FloatOps F]

/-- The first raise gives away the pieces the first neighbour writes. -/
theorem rm_false (d : Dev nD) : bigSep Finset.univ (rm (F := F) d 0 0)
    ⊢ iprop(barPay (p1 d) false ∗ bigSep Finset.univ (rm d 1 0)) := by
  unfold barPay
  rw [← bigSep_sep']
  refine each fun i => ?_
  rw [rm_0, rm_1, show nb false (p1 d) = d from p1_p1 d]
  rcases h : cls i with _ | _
  · rw [if_pos rfl, if_neg Bool.false_ne_true]; iintro H; isplitl [H]; · iexact H
    iempintro
  · rw [if_neg Bool.true_eq_false.mp, if_pos rfl]; iintro H; isplitr; · iempintro
    iexact H

/-- The second raise gives away the pieces the second neighbour writes. -/
theorem rm_true (d : Dev nD) : bigSep Finset.univ (rm (F := F) d 1 0)
    ⊢ iprop(barPay (p2 d) true ∗ bigSep Finset.univ (rm d 2 0)) := by
  unfold barPay
  rw [← bigSep_sep']
  refine each fun i => ?_
  rw [rm_1, rm_2, show nb true (p2 d) = d from p2_p2 d]
  iintro H; isplitl [H]; · iexact H
  iempintro

/-- The meeting hands over every piece the device is to write. -/
theorem rm_meet (d : Dev nD) : iprop(barPay (F := F) d false ∗ barPay d true) ⊢ bigSep Finset.univ (rm d 3 0) := by
  unfold barPay
  rw [← bigSep_sep']
  refine each fun i => ?_
  rw [rm_3, if_neg (Nat.not_lt_zero _)]; unfold peer
  rcases h : cls i with _ | _
  · rw [if_pos rfl, if_neg Bool.false_ne_true]; iintro ⟨H, -⟩; iexact H
  · rw [if_neg Bool.true_eq_false.mp, if_pos rfl]; iintro ⟨-, H⟩; iexact H

end Rm

/-! ## The meeting -/

/-- Raising the first neighbour's meeting semaphore: its pieces of the own receive buffer go with it. -/
theorem step_signal1 {w b r o : ℕ} {d : Dev nD} (hd : d = p1 c) {sm : Sem sig} (hsm : sm = barS) {n : Int} (hn : n = ((1 : ℕ) : Int))
    {k : PUnit → Pg F β} (hk : St A K c 1 w 0 b r o ⊢ wp frame (ℰ c none) Set.univ (k ⟨⟩) Q) :
    St A K c 0 w 0 b r o ⊢ wp frame (ℰ c none) Set.univ (.op (.semSignal (d, .tc) sm n) k) Q := by
  subst hd hsm hn
  unfold St
  rw [mt_0]
  iintro ⟨#HI, ⟨%W, HO⟩, ⟨Hc, Ht1, Ht2⟩, Htx, Hrx, Hrm, Hot, Hin⟩
  ihave H := (rm_false c) $$ Hrm
  icases H with ⟨Hp, Hrm⟩
  iapply (Rounds.wp_signal 𝒱₀ ER (rd0 A) (c : Thread nD τ) none (dst := (p1 c : Thread nD τ)) (sem := barS) (r := 0)
      (d := false) (κ := K (barCell (p1 c))) (by rw [duties_bar]; decide) (amount_bar A (p1 c) false) () (owed c 1 0) (owed_0 c 0) (W := W))
    $$ [HO Ht1 Hp]
  · isplitr; · iapply (info_bar A K (p1 c)); iexact HI
    isplitl [HO]; · iexact HO
    isplitl [Ht1]; · iexact Ht1
    isplitl [Hp]; · rw [payload_bar]; iexact Hp
    iapply (info_reached A K (p1 c)); iexact HI
  iintro HO
  iapply hk
  unfold St
  rw [mt_1]
  isplitr; · iexact HI
  isplitl [HO]; · iexists W; iexact HO
  isplitl [Hc Ht2]
  · isplitl [Hc]; · iexact Hc
    isplitr; · iempintro
    iexact Ht2
  isplitl [Htx]; · iexact Htx
  isplitl [Hrx]; · iexact Hrx
  isplitl [Hrm]; · iexact Hrm
  isplitl [Hot]; · iexact Hot
  iexact Hin

/-- Raising the second neighbour's. -/
theorem step_signal2 {w b r o : ℕ} {d : Dev nD} (hd : d = p2 c) {sm : Sem sig} (hsm : sm = barS) {n : Int} (hn : n = ((1 : ℕ) : Int))
    {k : PUnit → Pg F β} (hk : St A K c 2 w 0 b r o ⊢ wp frame (ℰ c none) Set.univ (k ⟨⟩) Q) :
    St A K c 1 w 0 b r o ⊢ wp frame (ℰ c none) Set.univ (.op (.semSignal (d, .tc) sm n) k) Q := by
  subst hd hsm hn
  unfold St
  rw [mt_1]
  iintro ⟨#HI, ⟨%W, HO⟩, ⟨Hc, -, Ht2⟩, Htx, Hrx, Hrm, Hot, Hin⟩
  ihave H := (rm_true c) $$ Hrm
  icases H with ⟨Hp, Hrm⟩
  iapply (Rounds.wp_signal 𝒱₀ ER (rd0 A) (c : Thread nD τ) none (dst := (p2 c : Thread nD τ)) (sem := barS) (r := 0)
      (d := true) (κ := K (barCell (p2 c))) (by rw [duties_bar]; decide) (amount_bar A (p2 c) true) () (owed c 2 0) (owed_1 c 0) (W := W))
    $$ [HO Ht2 Hp]
  · isplitr; · iapply (info_bar A K (p2 c)); iexact HI
    isplitl [HO]; · iexact HO
    isplitl [Ht2]; · iexact Ht2
    isplitl [Hp]; · rw [payload_bar]; iexact Hp
    iapply (info_reached A K (p2 c)); iexact HI
  iintro HO
  iapply hk
  unfold St
  rw [mt_2]
  isplitr; · iexact HI
  isplitl [HO]; · iexists W; iexact HO
  isplitl [Hc]
  · isplitl [Hc]; · iexact Hc
    isplitr <;> iempintro
  isplitl [Htx]; · iexact Htx
  isplitl [Hrx]; · iexact Hrx
  isplitl [Hrm]; · iexact Hrm
  isplitl [Hot]; · iexact Hot
  iexact Hin

/-- Waiting for both neighbours: the pieces of their receive buffers come with it. -/
theorem step_meet {w b r o : ℕ} {sm : Sem sig} (hsm : sm = barS) {n : Int} (hn : n = ((2 : ℕ) : Int))
    {k : PUnit → Pg F β} (hk : St A K c 3 w 0 b r o ⊢ wp frame (ℰ c none) Set.univ (k ⟨⟩) Q) :
    St A K c 2 w 0 b r o ⊢ wp frame (ℰ c none) Set.univ (.op (.semWait sm n) k) Q := by
  subst hsm hn
  unfold St
  rw [mt_2, owed_late c 2 0 (by decide)]
  iintro ⟨#HI, ⟨%W, HO⟩, ⟨⟨Hc, Ha⟩, -, -⟩, Htx, Hrx, -, Hot, Hin⟩
  iapply (Rounds.wp_wait_rest_token 𝒱₀ ER (rd0 A) (c : Thread nD τ) none (κ := K (barCell c))
      (wpE_semWait_eq 𝒱₀ (c : Thread nD τ) none Set.univ) (Set.mem_univ _) () (O := owe c 0) (W := W) (R := 0) (m := 0) (T := ∅)
      ((Nat.zero_add _).trans (expect_bar A c).symm)) $$ [Hc HO Ha]
  · isplitr; · iapply (info_bar A K c); iexact HI
    isplitl [Hc]; · iexact Hc
    isplitl [HO]; · iexact HO
    isplitr
    · iapply (mayWait c (.reg barS) 0 1 (by rw [lv_bar]) (fun i _ => by split <;> decide))
      iapply (info_lev A K); iexact HI
    iexact Ha
  iintro ⟨HO, Ha, -, Hpay⟩
  ihave Hp := (Entails.of_eq (rest_bar A c)) $$ Hpay
  iapply hk
  unfold St
  rw [mt_3, owed_late c 3 0 (by decide)]
  isplitr; · iexact HI
  isplitl [HO]; · iexists _; iexact HO
  isplitl [Ha]
  · isplitl [Ha]; · iexact Ha
    isplitr <;> iempintro
  isplitl [Htx]; · iexact Htx
  isplitl [Hrx]; · iexact Hrx
  isplitl [Hp]; · iapply (rm_meet c); iexact Hp
  isplitl [Hot]; · iexact Hot
  iexact Hin

/-! ## The transfers -/

/-- Starting transfer `i`, its piece staged: the piece and the receiver's go with it. -/
theorem step_send (i : Fin 16) {w b r o s : ℕ} (s' : ℕ) (hs : s = i.val) (hs' : s' = s + 1) (hw : i.val < w) (hb : b ≤ i.val)
    {d : Dev nD} (hd : d = peer i c) {qs qr : DmaSem sig} (hqs : qs = sS i) (hqr : qr = rS i)
    {src dst : Memref sig .tc .vmem S64x256 .bf16} (hsrc : src = sendM i) (hdst : dst = commM i)
    {hsc : dst.view.ref.isScScratch = false} {x1 : src.view.WordExact} {x2 : dst.view.WordExact}
    {x3 : DmaTarget.Typed .vmem (.dma qr) (.remote (Dev.tc d : Thread nD τ) dst (.dma qs) hsc)}
    {k : PUnit → Pg F β} (hk : St A K c 3 w s' b r o ⊢ wp frame (ℰ c none) Set.univ (k ⟨⟩) Q) :
    St A K c 3 w s b r o ⊢ wp frame (ℰ c none) Set.univ
      (.op (.enqueueDma src (.remote (Dev.tc d : Thread nD τ) dst (.dma qs) hsc) (.dma qr) x1 x2 x3) k) Q := by
  subst hd hqs hqr hsrc hdst hs'
  have hO : owe c s = _ := (congrArg (owe c) hs).trans ((owe_step c i).trans (congrArg (fun n => owe c (n + 1) + _) hs.symm))
  unfold St
  rw [owed_late c 3 _ (by decide)]
  iintro ⟨#HI, ⟨%W, HO⟩, Hmt, Htx, Hrx, Hrm, Hot, Hin⟩
  ihave H := (take (tx A c w s b) (tx A c w (s + 1) b) i (fun k h => tx_s A c hs h)) $$ Htx
  icases H with ⟨Hi, Htx⟩
  ihave Hi := (Entails.of_eq ((tx_new A c hb hs.le).trans (txNew_staged A c hw))) $$ Hi
  ihave H := (take (rm (F := F) c 3 s) (rm c 3 (s + 1)) i (fun k h => rm_s c hs h)) $$ Hrm
  icases H with ⟨Hf, Hrm⟩
  ihave Hf := (Entails.of_eq ((rm_3 c s i).trans (if_neg (by omega)))) $$ Hf
  unfold rFree txR
  icases Hf with ⟨⟨%fd, Hd⟩, #Hrr⟩
  icases Hi with ⟨Hs, Ha, #Hrs, Hts, Htr⟩
  iapply (Rounds.wp_send_pointsTo 𝒱₀ ER (rd0 A) (c : Thread nD τ) none (c' := (peer i c : Thread nD τ)) (src := sendM i) (dst := commM i)
      (sS := .dma (sS i)) (sem := .dma (rS i)) (q := fullShare) (fs := SF A c) (fd := fd) (κ₁ := K (sndCell c i)) (κ₂ := K (rcvCell (peer i c) i))
      (r₁ := 0) (r₂ := 0) (d₁ := false) (d₂ := false)
      (by rw [duties_snd]; decide) (by rw [duties_rcv]; decide)
      () () N rfl (amount_snd A c i false) (amount_rcv A (peer i c) i false) (owe c (s + 1)) hO (W := W)
      (by rw [payload_snd, sendM_set])
      (by rw [payload_rcv, commM_set, peer_peer, pointsTo_congr (landed i fd (SF A c))])) $$ [Hs Hd HO Hts Htr]
  · isplitr; · iapply (info_snd A K c i); iexact HI
    isplitr; · iapply (info_rcv A K (peer i c) i); iexact HI
    isplitl [Hs]; · rw [sendM_set]; iexact Hs
    isplitl [Hd]; · rw [commM_set]; iexact Hd
    isplitl [HO]; · iexact HO
    isplitl [Hts]; · iexact Hts
    isplitr; · iexact Hrs
    isplitl [Htr]; · iexact Htr
    iexact Hrr
  iintro ⟨Hc, HO⟩
  iapply hk
  unfold St
  rw [owed_late c 3 _ (by decide)]
  isplitr; · iexact HI
  isplitl [HO]; · iexists W; iexact HO
  isplitl [Hmt]; · iexact Hmt
  isplitl [Htx Hc Ha]
  · iapply Htx
    rw [tx_fly A c hb (by omega)]; unfold txFly
    isplitl [Hc]; · iexact Hc
    iexact Ha
  isplitl [Hrx]; · iexact Hrx
  isplitl [Hrm]
  · iapply Hrm
    rw [rm_3, if_pos (by omega)]; iempintro
  isplitl [Hot]; · iexact Hot
  iexact Hin

/-- Waiting for transfer `i` to have left: the piece comes back. -/
theorem step_left (i : Fin 16) {w s b r o : ℕ} (b' : ℕ) (hb : b = i.val) (hb' : b' = b + 1) (hs : i.val < s)
    {q : DmaSem sig} (hq : q = sS i) {src dst : Memref sig .tc .vmem S64x256 .bf16} (hsrc : src = commM i) (hdst : dst = sendM i)
    {x1 : src.view.WordExact} {x2 : dst.view.WordExact}
    {k : PUnit → Pg F β} (hk : St A K c 3 w s b' r o ⊢ wp frame (ℰ c none) Set.univ (k ⟨⟩) Q) :
    St A K c 3 w s b r o ⊢ wp frame (ℰ c none) Set.univ (.op (.waitDma2 q src dst x1 x2) k) Q := by
  subst hq hb' hsrc hdst
  have hN : (sendM i).view.dmaCredit = N := rfl
  unfold St
  rw [owed_late c 3 _ (by decide)]
  iintro ⟨#HI, ⟨%W, HO⟩, Hmt, Htx, Hrx, Hrm, Hot, Hin⟩
  ihave H := (take (tx A c w s b) (tx A c w s (b + 1)) i (fun k h => tx_b A c hb h)) $$ Htx
  icases H with ⟨Hi, Htx⟩
  ihave Hi := (Entails.of_eq (tx_fly A c hb.le hs)) $$ Hi
  unfold txFly
  icases Hi with ⟨Hc, Ha⟩
  iapply (Rounds.wp_wait_rest_token 𝒱₀ ER (rd0 A) (c : Thread nD τ) none (κ := K (sndCell c i))
      (wpE_waitDma2_eq 𝒱₀ (c : Thread nD τ) none Set.univ) (Set.mem_univ _) () (O := owe c s) (W := W) (R := 0) (m := 0) (T := ∅)
      ((Nat.zero_add _).trans (hN.trans (expect_snd A c i).symm))) $$ [Hc HO Ha]
  · isplitr; · iapply (info_snd A K c i); iexact HI
    isplitl [Hc]; · rw [hN]; iexact Hc
    isplitl [HO]; · iexact HO
    isplitr
    · iapply (mayWait c (.dma (sS i)) s 0 (by rw [lv_snd]) (fun i _ => by split <;> decide))
      iapply (info_lev A K); iexact HI
    iexact Ha
  iintro ⟨HO, Ha, -, Hpay⟩
  ihave Hp := (Entails.of_eq (rest_snd A c i)) $$ Hpay
  iapply hk
  unfold St
  rw [owed_late c 3 _ (by decide)]
  isplitr; · iexact HI
  isplitl [HO]; · iexists _; iexact HO
  isplitl [Hmt]; · iexact Hmt
  isplitl [Htx Hp Ha]
  · iapply Htx
    rw [tx_done A c (by omega)]; unfold txDone
    isplitl [Hp]; · iexact Hp
    iexact Ha
  isplitl [Hrx]; · iexact Hrx
  isplitl [Hrm]; · iexact Hrm
  isplitl [Hot]; · iexact Hot
  iexact Hin

/-- Waiting for transfer `i` to have arrived: the piece of the receive buffer comes, holding what the sender staged. -/
theorem step_arrived (i : Fin 16) {w s b r o : ℕ} (r' : ℕ) (hr : r = i.val) (hr' : r' = r + 1)
    (hlv : ∀ k : Fin 16, s ≤ k.val → (if i.val < 8 then 2 else 3) < if k.val < 8 then 2 else 3)
    {q : DmaSem sig} (hq : q = rS i) {src dst : Memref sig .tc .vmem S64x256 .bf16} (hsrc : src = sendM i) (hdst : dst = commM i)
    {x1 : src.view.WordExact} {x2 : dst.view.WordExact}
    {k : PUnit → Pg F β} (hk : St A K c 3 w s b r' o ⊢ wp frame (ℰ c none) Set.univ (k ⟨⟩) Q) :
    St A K c 3 w s b r o ⊢ wp frame (ℰ c none) Set.univ (.op (.waitDma2 q src dst x1 x2) k) Q := by
  subst hq hr' hsrc hdst
  have hN : (commM i).view.dmaCredit = N := rfl
  unfold St
  rw [owed_late c 3 _ (by decide)]
  iintro ⟨#HI, ⟨%W, HO⟩, Hmt, Htx, Hrx, Hrm, Hot, Hin⟩
  ihave H := (take (rx A c r) (rx A c (r + 1)) i (fun k h => rx_r A c hr h)) $$ Hrx
  icases H with ⟨Hi, Hrx⟩
  ihave Hi := (Entails.of_eq (rx_new A c hr.le)) $$ Hi
  unfold rxNew
  icases Hi with ⟨Hc, Ha⟩
  iapply (Rounds.wp_wait_rest_token 𝒱₀ ER (rd0 A) (c : Thread nD τ) none (κ := K (rcvCell c i))
      (wpE_waitDma2_eq 𝒱₀ (c : Thread nD τ) none Set.univ) (Set.mem_univ _) () (O := owe c s) (W := W) (R := 0) (m := 0) (T := ∅)
      ((Nat.zero_add _).trans (hN.trans (expect_rcv A c i).symm))) $$ [Hc HO Ha]
  · isplitr; · iapply (info_rcv A K c i); iexact HI
    isplitl [Hc]; · rw [hN]; iexact Hc
    isplitl [HO]; · iexact HO
    isplitr
    · iapply (mayWait c (.dma (rS i)) s (if i.val < 8 then 2 else 3) (by rw [lv_rcv]) hlv)
      iapply (info_lev A K); iexact HI
    iexact Ha
  iintro ⟨HO, Ha, -, Hpay⟩
  ihave Hp := (Entails.of_eq (rest_rcv A c i)) $$ Hpay
  iapply hk
  unfold St
  rw [owed_late c 3 _ (by decide)]
  isplitr; · iexact HI
  isplitl [HO]; · iexists _; iexact HO
  isplitl [Hmt]; · iexact Hmt
  isplitl [Htx]; · iexact Htx
  isplitl [Hrx Hp Ha]
  · iapply Hrx
    rw [rx_done A c (by omega)]; unfold rxDone
    isplitl [Hp]; · iexact Hp
    iexact Ha
  isplitl [Hrm]; · iexact Hrm
  isplitl [Hot]; · iexact Hot
  iexact Hin

/-! ## The elements a piece's access covers -/

/-- An access to piece `i` of the receive buffer touches just that piece. -/
theorem set7 (i : Fin 16) : (a7.access (pR i)).set = pSet i := View.set_slice_whole cc0_scratch1 (pR i)
/-- An access to piece `i` of the send buffer touches just that piece. -/
theorem set6 (i : Fin 16) : (a6.access (pR i)).set = pSet i := View.set_slice_whole cc0_scratch0 (pR i)
/-- An access to a half of the send buffer touches just that half. -/
theorem setH (h : Fin 2) : (a6.access (hR h)).set = (hR h).set := View.set_slice_whole cc0_scratch0 (hR h)
/-- An access to piece `j` of the result touches just that piece. -/
theorem set5 (j : Fin 8) : (a5.access (oR j)).set = oSet j := View.set_slice_whole cc0_stg5_0 (oR j)
/-- The send buffer's second part holds the sums of the first exchange. -/
theorem SF_hi (j : Fin 8) (y : S1x64x256.Idx) : SF A c ((pR (hi j)).emb y) = accS A c j y := by
  have h0 : (y 0).val < 1 := (y 0).isLt
  have hj := j.isLt
  refine SF_acc A c j y _ ?_ ?_ ?_
  · show (j.val + 8) / 8 + 1 * (y 0).val = 1; omega
  · show 64 * ((j.val + 8) / 2 % 4) + 1 * (y 1).val = _; omega
  · show 256 * ((j.val + 8) % 2) + 1 * (y 2).val = _; omega
/-- The result holds its pieces. -/
theorem outF_at (j : Fin 8) (y : S1x64x256.Idx) : outF A c ((oR j).emb y) = outP A c j y := by
  have h0 : (y 0).val < 1 := (y 0).isLt
  refine outF_piece A c j y _ ?_ ?_ ?_
  · show j.val / 4 + 1 * (y 0).val = _; omega
  · show 64 * (j.val / 2 % 2) + 1 * (y 1).val = _; omega
  · show 256 * (j.val % 2) + 1 * (y 2).val = _; omega
/-- The first half of the send buffer's first part holds batch 0's share. -/
theorem SF_half0 (y : S1x128x512.Idx) : SF A c ((hR 0).emb y) = S0 c (A c) y := by
  have h0 : (y 0).val < 1 := (y 0).isLt
  refine SF_batch0 A c y _ ?_ ?_ ?_
  · show 0 + 1 * (y 0).val = _; omega
  · show 0 + 1 * (y 1).val = _; omega
  · show 0 + 1 * (y 2).val = _; omega
/-- The second half of the send buffer's first part holds batch 1's share. -/
theorem SF_half1 (y : S1x128x512.Idx) : SF A c ((hR 1).emb y) = S1 c (A c) y := by
  have h0 : (y 0).val < 1 := (y 0).isLt
  refine SF_batch1 A c y _ ?_ ?_ ?_
  · show 0 + 1 * (y 0).val = _; omega
  · show 128 + 1 * (y 1).val = _; omega
  · show 0 + 1 * (y 2).val = _; omega

/-! ## Reading the operands -/

/-- Reading from operand 0. -/
theorem step_ld0 {p w s b r o : ℕ} {R : Rect S2x128x512} {hl : a0.view.LoadsAt R.toLoadRect}
    {k : (R.toLoadRect.shape.Idx → Elt F .bf16) → Pg F β}
    (hk : St A K c p w s b r o ⊢ wp frame (ℰ c none) Set.univ (k ((a0.access R).read (Elt F) (A c).x)) Q) :
    St A K c p w s b r o ⊢ wp frame (ℰ c none) Set.univ (.op (.load a0 R.toLoadRect hl) k) Q := by
  unfold St ins at *
  iintro ⟨HI, HO, Hmt, Htx, Hrx, Hrm, Hot, ⟨H0, H1, H2, H3, H4⟩⟩
  iapply (wp_load_rect 𝒱₀ (c : Thread nD τ) none Set.univ (m := a0) (r := R) (S := Finset.univ) (Finset.subset_univ _)) $$ H0
  iintro H0
  iapply hk
  iframe

/-- Reading from operand 1. -/
theorem step_ld1 {p w s b r o : ℕ} {R : Rect S512x256} {hl : a1.view.LoadsAt R.toLoadRect}
    {k : (R.toLoadRect.shape.Idx → Elt F .bf16) → Pg F β}
    (hk : St A K c p w s b r o ⊢ wp frame (ℰ c none) Set.univ (k ((a1.access R).read (Elt F) (A c).wq)) Q) :
    St A K c p w s b r o ⊢ wp frame (ℰ c none) Set.univ (.op (.load a1 R.toLoadRect hl) k) Q := by
  unfold St ins at *
  iintro ⟨HI, HO, Hmt, Htx, Hrx, Hrm, Hot, ⟨H0, H1, H2, H3, H4⟩⟩
  iapply (wp_load_rect 𝒱₀ (c : Thread nD τ) none Set.univ (m := a1) (r := R) (S := Finset.univ) (Finset.subset_univ _)) $$ H1
  iintro H1
  iapply hk
  iframe

/-- Reading from operand 2. -/
theorem step_ld2 {p w s b r o : ℕ} {R : Rect S2x128x1024} {hl : a2.view.LoadsAt R.toLoadRect}
    {k : (R.toLoadRect.shape.Idx → Elt F .bf16) → Pg F β}
    (hk : St A K c p w s b r o ⊢ wp frame (ℰ c none) Set.univ (k ((a2.access R).read (Elt F) (A c).k)) Q) :
    St A K c p w s b r o ⊢ wp frame (ℰ c none) Set.univ (.op (.load a2 R.toLoadRect hl) k) Q := by
  unfold St ins at *
  iintro ⟨HI, HO, Hmt, Htx, Hrx, Hrm, Hot, ⟨H0, H1, H2, H3, H4⟩⟩
  iapply (wp_load_rect 𝒱₀ (c : Thread nD τ) none Set.univ (m := a2) (r := R) (S := Finset.univ) (Finset.subset_univ _)) $$ H2
  iintro H2
  iapply hk
  iframe

/-- Reading from operand 3. -/
theorem step_ld3 {p w s b r o : ℕ} {R : Rect S2x128x1024} {hl : a3.view.LoadsAt R.toLoadRect}
    {k : (R.toLoadRect.shape.Idx → Elt F .bf16) → Pg F β}
    (hk : St A K c p w s b r o ⊢ wp frame (ℰ c none) Set.univ (k ((a3.access R).read (Elt F) (A c).v)) Q) :
    St A K c p w s b r o ⊢ wp frame (ℰ c none) Set.univ (.op (.load a3 R.toLoadRect hl) k) Q := by
  unfold St ins at *
  iintro ⟨HI, HO, Hmt, Htx, Hrx, Hrm, Hot, ⟨H0, H1, H2, H3, H4⟩⟩
  iapply (wp_load_rect 𝒱₀ (c : Thread nD τ) none Set.univ (m := a3) (r := R) (S := Finset.univ) (Finset.subset_univ _)) $$ H3
  iintro H3
  iapply hk
  iframe

/-- Reading from operand 4. -/
theorem step_ld4 {p w s b r o : ℕ} {R : Rect S256x512} {hl : a4.view.LoadsAt R.toLoadRect}
    {k : (R.toLoadRect.shape.Idx → Elt F .bf16) → Pg F β}
    (hk : St A K c p w s b r o ⊢ wp frame (ℰ c none) Set.univ (k ((a4.access R).read (Elt F) (A c).wo)) Q) :
    St A K c p w s b r o ⊢ wp frame (ℰ c none) Set.univ (.op (.load a4 R.toLoadRect hl) k) Q := by
  unfold St ins at *
  iintro ⟨HI, HO, Hmt, Htx, Hrx, Hrm, Hot, ⟨H0, H1, H2, H3, H4⟩⟩
  iapply (wp_load_rect 𝒱₀ (c : Thread nD τ) none Set.univ (m := a4) (r := R) (S := Finset.univ) (Finset.subset_univ _)) $$ H4
  iintro H4
  iapply hk
  iframe

/-! ## The pieces read and written -/

/-- Reading what arrived by transfer `i`. -/
theorem step_ldc (i : Fin 16) {p w s b r o : ℕ} (hr : i.val < r) {hl : a7.view.LoadsAt (pR i).toLoadRect}
    {k : ((pR i).toLoadRect.shape.Idx → Elt F .bf16) → Pg F β}
    (hk : St A K c p w s b r o ⊢ wp frame (ℰ c none) Set.univ (k (cvF A c i)) Q) :
    St A K c p w s b r o ⊢ wp frame (ℰ c none) Set.univ (.op (.load a7 (pR i).toLoadRect hl) k) Q := by
  unfold St at *
  iintro ⟨HI, HO, Hmt, Htx, Hrx, Hrm, Hot, Hin⟩
  ihave H := (take (rx A c r) (rx A c r) i (fun _ _ => rfl)) $$ Hrx
  icases H with ⟨Hi, Hrx⟩
  ihave Hi := (Entails.of_eq (rx_done A c hr)) $$ Hi
  unfold rxDone
  icases Hi with ⟨Hp, Ha⟩
  iapply (wp_load_rect 𝒱₀ (c : Thread nD τ) none Set.univ (m := a7) (r := pR i) (S := pSet i) (Finset.subset_of_eq (set7 i))) $$ Hp
  iintro Hp
  iapply hk
  isplitl [HI]; · iexact HI
  isplitl [HO]; · iexact HO
  isplitl [Hmt]; · iexact Hmt
  isplitl [Htx]; · iexact Htx
  isplitl [Hp Ha Hrx]
  · iapply Hrx
    rw [rx_done A c hr]; unfold rxDone
    isplitl [Hp]; · iexact Hp
    iexact Ha
  isplitl [Hrm]; · iexact Hrm
  isplitl [Hot]; · iexact Hot
  iexact Hin

/-- Reading a piece of the send buffer not yet staged: whatever it holds. -/
theorem step_ldraw (j : Fin 8) {p s b r o w : ℕ} (hw : w = (hi j).val) (hs : s ≤ (hi j).val) (hb : b ≤ (hi j).val)
    {hl : a6.view.LoadsAt (pR (hi j)).toLoadRect} {k : ((pR (hi j)).toLoadRect.shape.Idx → Elt F .bf16) → Pg F β}
    (hk : ∀ v, St A K c p w s b r o ⊢ wp frame (ℰ c none) Set.univ (k v) Q) :
    St A K c p w s b r o ⊢ wp frame (ℰ c none) Set.univ (.op (.load a6 (pR (hi j)).toLoadRect hl) k) Q := by
  unfold St at *
  iintro ⟨HI, HO, Hmt, Htx, Hrx, Hrm, Hot, Hin⟩
  ihave H := (take (tx A c w s b) (tx A c w s b) (hi j) (fun k h => rfl)) $$ Htx
  icases H with ⟨Hi, Htx⟩
  ihave Hi := (Entails.of_eq ((tx_new A c hb hs).trans (txNew_raw A c hw.le))) $$ Hi
  icases Hi with ⟨⟨%f, Hp⟩, Ha⟩
  iapply (wp_load_rect 𝒱₀ (c : Thread nD τ) none Set.univ (m := a6) (r := pR (hi j)) (S := pSet (hi j)) (Finset.subset_of_eq (set6 (hi j)))) $$ Hp
  iintro Hp
  iapply (hk _)
  isplitl [HI]; · iexact HI
  isplitl [HO]; · iexact HO
  isplitl [Hmt]; · iexact Hmt
  isplitl [Hp Ha Htx]
  · iapply Htx
    rw [tx_new A c hb hs, txNew_raw A c hw.le]
    isplitl [Hp]; · iexists f; iexact Hp
    iexact Ha
  isplitl [Hrx]; · iexact Hrx
  isplitl [Hrm]; · iexact Hrm
  isplitl [Hot]; · iexact Hot
  iexact Hin

/-- Staging the sum of piece `j` for the second exchange. -/
theorem step_put (j : Fin 8) {p s b r o w : ℕ} (w' : ℕ) (hw : w = (hi j).val) (hw' : w' = w + 1) (hs : s ≤ (hi j).val) (hb : b ≤ (hi j).val)
    {v : (pR (hi j)).shape.Idx → Elt F .bf16} (hv : v = accS A c j)
    {hx : (a6.access (pR (hi j))).Stores Finset.univ}
    {hm : (Finset.univ : Finset (pR (hi j)).shape.Idx) = Finset.univ ∨ ∀ a, (pR (hi j)).stride a = 1}
    {k : PUnit → Pg F β} (hk : St A K c p w' s b r o ⊢ wp frame (ℰ c none) Set.univ (k ⟨⟩) Q) :
    St A K c p w s b r o ⊢ wp frame (ℰ c none) Set.univ (.op (.store a6 (pR (hi j)) v Finset.univ hx hm) k) Q := by
  subst hv hw'
  unfold St at *
  iintro ⟨HI, HO, Hmt, Htx, Hrx, Hrm, Hot, Hin⟩
  ihave H := (take (tx A c w s b) (tx A c (w + 1) s b) (hi j) (fun k h => tx_w A c hw h)) $$ Htx
  icases H with ⟨Hi, Htx⟩
  ihave Hi := (Entails.of_eq ((tx_new A c hb hs).trans (txNew_raw A c hw.le))) $$ Hi
  icases Hi with ⟨⟨%f, Hp⟩, Ha⟩
  iapply (wp_store 𝒱₀ (c : Thread nD τ) none Set.univ (m := a6) (r := pR (hi j)) (S := pSet (hi j)) (Mk := Finset.univ)
    (Finset.subset_of_eq (set6 (hi j)))) $$ Hp
  iintro Hp
  ihave Hp := (Entails.of_eq (pointsTo_congr (write6 (pR (hi j)) f (SF A c) (accS A c j) (SF_hi A c j)))) $$ Hp
  iapply hk
  isplitl [HI]; · iexact HI
  isplitl [HO]; · iexact HO
  isplitl [Hmt]; · iexact Hmt
  isplitl [Hp Ha Htx]
  · iapply Htx
    rw [tx_new A c hb hs, txNew_staged A c (by omega)]
    isplitl [Hp]; · iexact Hp
    iexact Ha
  isplitl [Hrx]; · iexact Hrx
  isplitl [Hrm]; · iexact Hrm
  isplitl [Hot]; · iexact Hot
  iexact Hin

/-- Writing piece `j` of the result (what was there is read first and dropped). -/
theorem step_out (j : Fin 8) {p w s b r o : ℕ} (o' : ℕ) (ho : o = j.val) (ho' : o' = o + 1)
    {v : (oR j).shape.Idx → Elt F .bf16} (hv : v = outP A c j)
    {hl : a5.view.LoadsAt (oR j).toLoadRect} {hx : (a5.access (oR j)).Stores Finset.univ}
    {hm : (Finset.univ : Finset (oR j).shape.Idx) = Finset.univ ∨ ∀ a, (oR j).stride a = 1}
    {k : PUnit → Pg F β} (hk : St A K c p w s b r o' ⊢ wp frame (ℰ c none) Set.univ (k ⟨⟩) Q) :
    St A K c p w s b r o ⊢ wp frame (ℰ c none) Set.univ
      (.op (.load a5 (oR j).toLoadRect hl) fun _ => .op (.store a5 (oR j) v Finset.univ hx hm) k) Q := by
  subst hv ho'
  unfold St at *
  iintro ⟨HI, HO, Hmt, Htx, Hrx, Hrm, Hot, Hin⟩
  ihave H := (take (ot A c o) (ot A c (o + 1)) j (fun k h => ot_o A c ho h)) $$ Hot
  icases H with ⟨Hi, Hot⟩
  ihave Hi := (Entails.of_eq (show ot A c o j = _ from if_neg (by omega))) $$ Hi
  icases Hi with ⟨%f, Hp⟩
  iapply (wp_load_rect 𝒱₀ (c : Thread nD τ) none Set.univ (m := a5) (r := oR j) (S := oSet j) (Finset.subset_of_eq (set5 j))) $$ Hp
  iintro Hp
  iapply (wp_store 𝒱₀ (c : Thread nD τ) none Set.univ (m := a5) (r := oR j) (S := oSet j) (Mk := Finset.univ)
    (Finset.subset_of_eq (set5 j))) $$ Hp
  iintro Hp
  ihave Hp := (Entails.of_eq (pointsTo_congr (write5 (oR j) f (outF A c) (outP A c j) (outF_at A c j)))) $$ Hp
  iapply hk
  isplitl [HI]; · iexact HI
  isplitl [HO]; · iexact HO
  isplitl [Hmt]; · iexact Hmt
  isplitl [Htx]; · iexact Htx
  isplitl [Hrx]; · iexact Hrx
  isplitl [Hrm]; · iexact Hrm
  isplitl [Hp Hot]
  · iapply Hot
    rw [show ot A c (o + 1) j = _ from if_pos (by omega)]
    iexact Hp
  iexact Hin

/-- Staging a batch's share for the first exchange (what was there is read first and dropped): its four pieces at once. -/
theorem step_half (h : Fin 2) {p s b r o w : ℕ} (w' : ℕ) (hw : w = 4 * h.val) (hw' : w' = w + 4) (hs : s ≤ 4 * h.val) (hb : b ≤ 4 * h.val)
    {v : (hR h).shape.Idx → Elt F .bf16} (hv : ∀ y, SF A c ((hR h).emb y) = v y)
    {hl : a6.view.LoadsAt (hR h).toLoadRect} {hx : (a6.access (hR h)).Stores Finset.univ}
    {hm : (Finset.univ : Finset (hR h).shape.Idx) = Finset.univ ∨ ∀ a, (hR h).stride a = 1}
    {k : PUnit → Pg F β} (hk : St A K c p w' s b r o ⊢ wp frame (ℰ c none) Set.univ (k ⟨⟩) Q) :
    St A K c p w s b r o ⊢ wp frame (ℰ c none) Set.univ
      (.op (.load a6 (hR h).toLoadRect hl) fun _ => .op (.store a6 (hR h) v Finset.univ hx hm) k) Q := by
  subst hw'
  have hraw (j : Fin 4) : tx A c w s b (hp h j) = iprop((∃ f, sP c (hp h j) f) ∗ txR c (hp h j)) :=
    (tx_new A c (by show b ≤ 4 * h.val + j.val; omega) (by show s ≤ 4 * h.val + j.val; omega)).trans
      (txNew_raw A c (by show w ≤ 4 * h.val + j.val; omega))
  have hst (j : Fin 4) : tx A c (w + 4) s b (hp h j) = iprop(sP c (hp h j) (SF A c) ∗ txR c (hp h j)) :=
    (tx_new A c (by show b ≤ 4 * h.val + j.val; omega) (by show s ≤ 4 * h.val + j.val; omega)).trans
      (txNew_staged A c (by show 4 * h.val + j.val < w + 4; omega))
  have hd : ∀ a a' : Fin 4, a ≠ a' → Disjoint (pSet (hp h a)) (pSet (hp h a')) :=
    fun a a' n => pSet_disjoint _ _ fun e => n (hp_inj h e)
  unfold St at *
  iintro ⟨HI, HO, Hmt, Htx, Hrx, Hrm, Hot, Hin⟩
  ihave H := (takeOn (hp h) (hp_inj h) (tx A c w s b) (tx A c (w + 4) s b) (fun k hk => tx_w4 A c hw hk)) $$ Htx
  icases H with ⟨Hi, Htx⟩
  ihave Hi := (Entails.of_eq ((bigSep_congr fun j _ => hraw j).trans (bigSep_sep' _ _ _))) $$ Hi
  icases Hi with ⟨Hp, Ha⟩
  ihave Hp := (Ring.pointsTo_sub_blocks_join_exists (ℓ := (c : Thread nD τ).loc cc0_scratch0) (fun j => pSet (hp h j)) hd (hR h).set (hSet_cover h) (SF A c)) $$ Hp
  icases Hp with ⟨%f, Hp⟩
  iapply (wp_load_rect 𝒱₀ (c : Thread nD τ) none Set.univ (m := a6) (r := hR h) (S := (hR h).set) (Finset.subset_of_eq (setH h))) $$ Hp
  iintro Hp
  iapply (wp_store 𝒱₀ (c : Thread nD τ) none Set.univ (m := a6) (r := hR h) (S := (hR h).set) (Mk := Finset.univ)
    (Finset.subset_of_eq (setH h))) $$ Hp
  iintro Hp
  ihave Hp := (Entails.of_eq (pointsTo_congr (write6 (hR h) f (SF A c) v hv))) $$ Hp
  ihave Hp := (Entails.of_eq (Ring.pointsTo_sub_blocks (ℓ := (c : Thread nD τ).loc cc0_scratch0) (fun j => pSet (hp h j)) hd (hR h).set (hSet_cover h) (SF A c))) $$ Hp
  iapply hk
  isplitl [HI]; · iexact HI
  isplitl [HO]; · iexact HO
  isplitl [Hmt]; · iexact Hmt
  isplitl [Hp Ha Htx]
  · iapply Htx
    iapply (Entails.of_eq ((bigSep_congr fun j _ => hst j).trans (bigSep_sep' _ _ _)).symm)
    isplitl [Hp]; · iexact Hp
    iexact Ha
  isplitl [Hrx]; · iexact Hrx
  isplitl [Hrm]; · iexact Hrm
  isplitl [Hot]; · iexact Hot
  iexact Hin

end Cert.KernelIdeal.Tp

end
-- ==== Proof.Body.lean ====
/-
  The kernel's body: the printed parts one after the other, each taking the state on by its operations.
-/
module

public import proofs.«01_k».proof.Proof.Steps
public import proofs.«01_k».proof.Proof.Gen.KernelIdeal.Points

@[expose] public section

set_option maxRecDepth 16384

noncomputable section

namespace Cert.KernelIdeal.Tp

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ
local notation "ℰ" => wpE (defs₀ (F := F)) 𝒱₀

variable (A : Dev nD → Ins F) (K : GSem nD τ sig → ℕ) (c : Dev nD)

/-! ## The devices the kernel names -/

/-- The first device the body computes is the first neighbour. -/
theorem dev_1 : (⟨k0_dev1 c, k0_dev1_lt c⟩ : Dev nD) = p1 c := by revert c; decide +kernel
/-- The second device the body computes is the second neighbour. -/
theorem dev_2 : (⟨k0_dev2 c, k0_dev2_lt c⟩ : Dev nD) = p2 c := by revert c; decide +kernel
/-- The device the body computes for transfer 0 is that transfer's partner. -/
theorem to_0 : (⟨k0_dev3 c, k0_dev3_lt c⟩ : Dev nD) = peer 0 c := by revert c; decide +kernel
/-- The device the body computes for transfer 1 is that transfer's partner. -/
theorem to_1 : (⟨k0_dev4 c, k0_dev4_lt c⟩ : Dev nD) = peer 1 c := by revert c; decide +kernel
/-- The device the body computes for transfer 2 is that transfer's partner. -/
theorem to_2 : (⟨k0_dev5 c, k0_dev5_lt c⟩ : Dev nD) = peer 2 c := by revert c; decide +kernel
/-- The device the body computes for transfer 3 is that transfer's partner. -/
theorem to_3 : (⟨k0_dev6 c, k0_dev6_lt c⟩ : Dev nD) = peer 3 c := by revert c; decide +kernel
/-- The device the body computes for transfer 4 is that transfer's partner. -/
theorem to_4 : (⟨k0_dev7 c, k0_dev7_lt c⟩ : Dev nD) = peer 4 c := by revert c; decide +kernel
/-- The device the body computes for transfer 5 is that transfer's partner. -/
theorem to_5 : (⟨k0_dev8 c, k0_dev8_lt c⟩ : Dev nD) = peer 5 c := by revert c; decide +kernel
/-- The device the body computes for transfer 6 is that transfer's partner. -/
theorem to_6 : (⟨k0_dev9 c, k0_dev9_lt c⟩ : Dev nD) = peer 6 c := by revert c; decide +kernel
/-- The device the body computes for transfer 7 is that transfer's partner. -/
theorem to_7 : (⟨k0_dev10 c, k0_dev10_lt c⟩ : Dev nD) = peer 7 c := by revert c; decide +kernel
/-- The device the body computes for transfer 8 is that transfer's partner. -/
theorem to_8 : (⟨k0_dev11 c, k0_dev11_lt c⟩ : Dev nD) = peer 8 c := by revert c; decide +kernel
/-- The device the body computes for transfer 9 is that transfer's partner. -/
theorem to_9 : (⟨k0_dev12 c, k0_dev12_lt c⟩ : Dev nD) = peer 9 c := by revert c; decide +kernel
/-- The device the body computes for transfer 10 is that transfer's partner. -/
theorem to_10 : (⟨k0_dev13 c, k0_dev13_lt c⟩ : Dev nD) = peer 10 c := by revert c; decide +kernel
/-- The device the body computes for transfer 11 is that transfer's partner. -/
theorem to_11 : (⟨k0_dev14 c, k0_dev14_lt c⟩ : Dev nD) = peer 11 c := by revert c; decide +kernel
/-- The device the body computes for transfer 12 is that transfer's partner. -/
theorem to_12 : (⟨k0_dev15 c, k0_dev15_lt c⟩ : Dev nD) = peer 12 c := by revert c; decide +kernel
/-- The device the body computes for transfer 13 is that transfer's partner. -/
theorem to_13 : (⟨k0_dev16 c, k0_dev16_lt c⟩ : Dev nD) = peer 13 c := by revert c; decide +kernel
/-- The device the body computes for transfer 14 is that transfer's partner. -/
theorem to_14 : (⟨k0_dev17 c, k0_dev17_lt c⟩ : Dev nD) = peer 14 c := by revert c; decide +kernel
/-- The device the body computes for transfer 15 is that transfer's partner. -/
theorem to_15 : (⟨k0_dev18 c, k0_dev18_lt c⟩ : Dev nD) = peer 15 c := by revert c; decide +kernel

/-! ## The parts -/

section Parts

variable {β : Type}

/-- At a program's end what holds of its result is what is asked. -/
theorem done {R : Type} {P : sProp (MT nD τ sig Unit (Elt F) ℕ UU ℕ)} {a : R} {Kt : R → sProp (MT nD τ sig Unit (Elt F) ℕ UU ℕ)} (h : P ⊢ Kt a) :
    P ⊢ wp frame (ℰ c none) Set.univ (.ret a) Kt := by
  rw [wp_ret]
  iintro H
  imodintro
  iapply h
  iexact H

/-- At a program's end what can be made of what holds is what is asked. -/
theorem finish {R : Type} {P : sProp (MT nD τ sig Unit (Elt F) ℕ UU ℕ)} {a : R} {Kt : R → sProp (MT nD τ sig Unit (Elt F) ℕ UU ℕ)}
    (h : P ⊢ iprop(|={Set.univ}=> Kt a)) : P ⊢ wp frame (ℰ c none) Set.univ (.ret a) Kt := by
  rw [wp_ret]; exact h

/-- Block 1 of the body: the meeting goes from phase 0 to 2. -/
theorem part_1 {Kt : (Σ' (_ : Dev nD) (_ : BitVec 32) (_ : BitVec 32) (_ : BitVec 32) (_ : Sems sig S_) (_ : FVec F S512x256 .bf16) (_ : FVec F S256x512 .bf16) (_ : IVec S128x128 32) (_ : IVec S128x128 1), IVec S128x128 1) → sProp 𝕄} (hk : ∀ v3 v4 v5 : BitVec 32, St A K c 2 0 0 0 0 0 ⊢ Kt ⟨c, v3, v4, v5, SemArray.scalar (sig.barrier 0 rfl), wqV (A c), woV (A c), k0_pay4, k0_pay5, k0_pay6⟩) :
    St A K c 0 0 0 0 0 0 ⊢ wp frame (ℰ c none) Set.univ
      (k0_part1 (F := F) a0 h0 a1 h1 a2 h2 a3 h3 a4 h4 a5 h5 a6 h6 a7 h7 cc0_scratch2 cc0_scratch3) Kt := by
  rw [k0_part1_eq_skeleton]; unfold k0_part1_skel
  simp only [semSignalWord, semWaitWord, Prog.lift, Prog.bind_op, Prog.bind_ret, Prog.pure_eq_ret]
  rw [wp_deviceId]
  refine step_signal1 A K c (dev_1 c) rfl rfl ?_
  refine step_signal2 A K c (dev_2 c) rfl rfl ?_
  refine step_ld1 A K c ?_
  refine step_ld4 A K c ?_
  exact done c ( hk _ _ _)

/-- Block 2 of the body: no count changes, it only computes. -/
theorem part_2 (v5 : BitVec 32) {Kt : (Σ' (_ : FVec F S128x128 .f32) (_ : FVec F S128x256 .bf16) (_ : FVec F S128x256 .bf16), Vec F S1x128x256 .bf16) → sProp 𝕄} (hk : St A K c 2 0 0 0 0 0 ⊢ Kt ⟨mk, q0 (A c), kk0 c (A c), v0r c (A c)⟩) :
    St A K c 2 0 0 0 0 0 ⊢ wp frame (ℰ c none) Set.univ
      (k0_part2 (F := F) a0 h0 a1 h1 a2 h2 a3 h3 a4 h4 a5 h5 a6 h6 a7 h7 cc0_scratch2 cc0_scratch3 c v5 (wqV (A c)) k0_pay4 k0_pay5 k0_pay6) Kt := by
  rw [k0_part2_eq_skeleton]; unfold k0_part2_skel
  simp only [semSignalWord, semWaitWord, Prog.lift, Prog.bind_op, Prog.bind_ret, Prog.pure_eq_ret]
  refine step_ld0 A K c ?_
  refine step_ld2 A K c ?_
  refine step_ld3 A K c ?_
  exact done c hk

/-- Block 3 of the body: no count changes, it only computes. -/
theorem part_3 {v67 : FVec F S128x128 .f32} {v73 v76 : FVec F S128x256 .bf16} {v78 : Vec F S1x128x256 .bf16} {Kt : (Σ' (_ : FVec F S128x256 .bf16) (_ : FVec F S128x64 .bf16) (_ : FVec F S128x64 .bf16) (_ : FVec F S128x64 .bf16) (_ : FVec F S128x64 .bf16), FVec F S128x64 .bf16) → sProp 𝕄} (hk : St A K c 2 0 0 0 0 0 ⊢ Kt ⟨k0_pay10 v78, k0_pay11 v67 v73 v76 v78, k0_pay12 v67 v73 v76 v78, k0_pay13 v67 v73 v76 v78, k0_pay14 v73, k0_pay15 v76⟩) :
    St A K c 2 0 0 0 0 0 ⊢ wp frame (ℰ c none) Set.univ
      (k0_part3 (F := F) a0 h0 a1 h1 a2 h2 a3 h3 a4 h4 a5 h5 a6 h6 a7 h7 cc0_scratch2 cc0_scratch3 v67 v73 v76 v78) Kt := by
  rw [k0_part3_eq_skeleton]; unfold k0_part3_skel
  simp only [semSignalWord, semWaitWord, Prog.lift, Prog.bind_op, Prog.bind_ret, Prog.pure_eq_ret]
  exact done c hk

/-- Block 4 of the body: the meeting goes from phase 2 to 3, the pieces staged from 0 to 4, the transfers started from 0 to 1. -/
theorem part_4 (v3 : BitVec 32) {Kt : FVec F S128x512 .f32 → sProp 𝕄} (hk : St A K c 3 4 1 0 0 0 ⊢ Kt (P0 c (A c))) :
    St A K c 2 0 0 0 0 0 ⊢ wp frame (ℰ c none) Set.univ
      (k0_part4 (F := F) a0 h0 a1 h1 a2 h2 a3 h3 a4 h4 a5 h5 a6 h6 a7 h7 cc0_scratch2 cc0_scratch3 c v3 (SemArray.scalar (sig.barrier 0 rfl)) (woV (A c)) mk (k0_pay10 (v0r c (A c))) (k0_pay11 mk (q0 (A c)) (kk0 c (A c)) (v0r c (A c))) (k0_pay12 mk (q0 (A c)) (kk0 c (A c)) (v0r c (A c)))
        (k0_pay13 mk (q0 (A c)) (kk0 c (A c)) (v0r c (A c))) (k0_pay14 (q0 (A c))) (k0_pay15 (kk0 c (A c)))) Kt := by
  rw [k0_part4_eq_skeleton]; unfold k0_part4_skel
  simp only [semSignalWord, semWaitWord, Prog.lift, Prog.bind_op, Prog.bind_ret, Prog.pure_eq_ret]
  refine step_half A K c 0 4 rfl rfl (by decide) (by decide) (SF_half0 A c) ?_
  refine step_meet A K c rfl rfl ?_
  refine step_send A K c 0 1 rfl rfl (by decide) (by decide) (to_0 c) rfl rfl rfl rfl ?_
  exact done c hk

/-- Block 5 of the body: the transfers started go from 1 to 3. -/
theorem part_5 (v3 v4 : BitVec 32) {Kt : PUnit → sProp 𝕄} (hk : St A K c 3 4 3 0 0 0 ⊢ Kt ⟨⟩) :
    St A K c 3 4 1 0 0 0 ⊢ wp frame (ℰ c none) Set.univ
      (k0_part5 (F := F) a0 h0 a1 h1 a2 h2 a3 h3 a4 h4 a5 h5 a6 h6 a7 h7 cc0_scratch2 cc0_scratch3 c v3 v4) Kt := by
  rw [k0_part5_eq_skeleton]; unfold k0_part5_skel
  simp only [semSignalWord, semWaitWord, Prog.lift, Prog.bind_op, Prog.bind_ret, Prog.pure_eq_ret]
  refine step_send A K c 1 2 rfl rfl (by decide) (by decide) (to_1 c) rfl rfl rfl rfl ?_
  refine step_send A K c 2 3 rfl rfl (by decide) (by decide) (to_2 c) rfl rfl rfl rfl ?_
  exact done c hk

/-- Block 6 of the body: the transfers started go from 3 to 4. -/
theorem part_6 (v5 : BitVec 32) {Kt : (Σ' (_ : FVec F S128x256 .bf16) (_ : FVec F S128x256 .bf16) (_ : FVec F S128x256 .bf16) (_ : FVec F S128x64 .bf16) (_ : FVec F S128x64 .bf16) (_ : FVec F S128x128 .f32), FVec F S128 .f32) → sProp 𝕄} (hk : St A K c 3 4 4 0 0 0 ⊢ Kt ⟨k0_pay18 (wqV (A c)) (x1 (A c)), k0_pay19 (k1r c (A c)), k0_pay20 (v1r c (A c)), k0_pay21 (wqV (A c)) mk (x1 (A c)) (k1r c (A c)) (v1r c (A c)), k0_pay22 (v1r c (A c)), k0_pay23 (wqV (A c)) mk (x1 (A c)) (k1r c (A c)), k0_pay24 (wqV (A c)) mk (x1 (A c)) (k1r c (A c))⟩) :
    St A K c 3 4 3 0 0 0 ⊢ wp frame (ℰ c none) Set.univ
      (k0_part6 (F := F) a0 h0 a1 h1 a2 h2 a3 h3 a4 h4 a5 h5 a6 h6 a7 h7 cc0_scratch2 cc0_scratch3 c v5 (wqV (A c)) mk) Kt := by
  rw [k0_part6_eq_skeleton]; unfold k0_part6_skel
  simp only [semSignalWord, semWaitWord, Prog.lift, Prog.bind_op, Prog.bind_ret, Prog.pure_eq_ret]
  refine step_send A K c 3 4 rfl rfl (by decide) (by decide) (to_3 c) rfl rfl rfl rfl ?_
  refine step_ld0 A K c ?_
  refine step_ld2 A K c ?_
  refine step_ld3 A K c ?_
  exact done c hk

/-- Block 7 of the body: the pieces staged go from 4 to 8. -/
theorem part_7 {Kt : FVec F S128x512 .f32 → sProp 𝕄} (hk : St A K c 3 8 4 0 0 0 ⊢ Kt (P1 c (A c))) :
    St A K c 3 4 4 0 0 0 ⊢ wp frame (ℰ c none) Set.univ
      (k0_part7 (F := F) a0 h0 a1 h1 a2 h2 a3 h3 a4 h4 a5 h5 a6 h6 a7 h7 cc0_scratch2 cc0_scratch3 (woV (A c)) mk (k0_pay18 (wqV (A c)) (x1 (A c))) (k0_pay19 (k1r c (A c))) (k0_pay20 (v1r c (A c))) (k0_pay21 (wqV (A c)) mk (x1 (A c)) (k1r c (A c)) (v1r c (A c)))
        (k0_pay22 (v1r c (A c))) (k0_pay23 (wqV (A c)) mk (x1 (A c)) (k1r c (A c))) (k0_pay24 (wqV (A c)) mk (x1 (A c)) (k1r c (A c)))) Kt := by
  rw [k0_part7_eq_skeleton]; unfold k0_part7_skel
  simp only [semSignalWord, semWaitWord, Prog.lift, Prog.bind_op, Prog.bind_ret, Prog.pure_eq_ret]
  refine step_half A K c 1 8 rfl rfl (by decide) (by decide) (SF_half1 A c) ?_
  exact done c hk

/-- Block 8 of the body: the transfers started go from 4 to 6. -/
theorem part_8 (v3 v4 : BitVec 32) {Kt : (Σ' (_ : BitVec 32), BitVec 32) → sProp 𝕄} (hk : ∀ x y : BitVec 32, St A K c 3 8 6 0 0 0 ⊢ Kt ⟨x, y⟩) :
    St A K c 3 8 4 0 0 0 ⊢ wp frame (ℰ c none) Set.univ
      (k0_part8 (F := F) a0 h0 a1 h1 a2 h2 a3 h3 a4 h4 a5 h5 a6 h6 a7 h7 cc0_scratch2 cc0_scratch3 c v3 v4) Kt := by
  rw [k0_part8_eq_skeleton]; unfold k0_part8_skel
  simp only [semSignalWord, semWaitWord, Prog.lift, Prog.bind_op, Prog.bind_ret, Prog.pure_eq_ret]
  refine step_send A K c 4 5 rfl rfl (by decide) (by decide) (to_4 c) rfl rfl rfl rfl ?_
  refine step_send A K c 5 6 rfl rfl (by decide) (by decide) (to_5 c) rfl rfl rfl rfl ?_
  exact done c ( hk _ _)

/-- Block 9 of the body: the transfers started go from 6 to 8, those seen off from 0 to 1. -/
theorem part_9 {v141 : FVec F S128x512 .f32} (v4 x y : BitVec 32) {Kt : FVec F S64x512 .f32 → sProp 𝕄} (hk : St A K c 3 8 8 1 0 0 ⊢ Kt (k0_pay27 v141)) :
    St A K c 3 8 6 0 0 0 ⊢ wp frame (ℰ c none) Set.univ
      (k0_part9 (F := F) a0 h0 a1 h1 a2 h2 a3 h3 a4 h4 a5 h5 a6 h6 a7 h7 cc0_scratch2 cc0_scratch3 c v4 v141 x y) Kt := by
  rw [k0_part9_eq_skeleton]; unfold k0_part9_skel
  simp only [semSignalWord, semWaitWord, Prog.lift, Prog.bind_op, Prog.bind_ret, Prog.pure_eq_ret]
  refine step_send A K c 6 7 rfl rfl (by decide) (by decide) (to_6 c) rfl rfl rfl rfl ?_
  refine step_send A K c 7 8 rfl rfl (by decide) (by decide) (to_7 c) rfl rfl rfl rfl ?_
  refine step_left A K c 0 1 rfl rfl (by decide) rfl rfl rfl ?_
  exact done c hk

/-- Block 10 of the body: the pieces staged go from 8 to 9, those received from 0 to 1. -/
theorem part_10 {v304 : FVec F S64x512 .f32} (v3 v4 : BitVec 32) (hv : k0_pay29 v304 (cvF A c 0) = accS A c 0) {Kt : FVec F S64x256 .f32 → sProp 𝕄} (hk : St A K c 3 9 8 1 1 0 ⊢ Kt (k0_pay28 v304 (cvF A c 0))) :
    St A K c 3 8 8 1 0 0 ⊢ wp frame (ℰ c none) Set.univ
      (k0_part10 (F := F) a0 h0 a1 h1 a2 h2 a3 h3 a4 h4 a5 h5 a6 h6 a7 h7 cc0_scratch2 cc0_scratch3 v3 v4 v304) Kt := by
  rw [k0_part10_eq_skeleton]; unfold k0_part10_skel
  simp only [semSignalWord, semWaitWord, Prog.lift, Prog.bind_op, Prog.bind_ret, Prog.pure_eq_ret]
  refine step_arrived A K c 0 1 rfl rfl (by decide) rfl rfl rfl ?_
  refine step_ldc A K c 0 (by decide) ?_
  refine step_ldraw A K c 0 rfl (by decide) (by decide) fun _ => ?_
  refine step_put A K c 0 9 rfl rfl (by decide) (by decide) hv ?_
  exact done c hk

/-- Block 11 of the body: the transfers started go from 8 to 9, those seen off from 1 to 2, those received from 1 to 2. -/
theorem part_11 {v304 : FVec F S64x512 .f32} (v4 : BitVec 32) {Kt : (Σ' (_ : FVec F S64x256 .f32) (_ : FVec F S64x256 .bf16), Vec F S1x64x256 .bf16) → sProp 𝕄} (hk : ∀ x : Vec F S1x64x256 .bf16, St A K c 3 9 9 2 2 0 ⊢ Kt ⟨k0_pay30 v304 (cvF A c 1), k0_pay31 v304 (cvF A c 1), x⟩) :
    St A K c 3 9 8 1 1 0 ⊢ wp frame (ℰ c none) Set.univ
      (k0_part11 (F := F) a0 h0 a1 h1 a2 h2 a3 h3 a4 h4 a5 h5 a6 h6 a7 h7 cc0_scratch2 cc0_scratch3 c v4 v304) Kt := by
  rw [k0_part11_eq_skeleton]; unfold k0_part11_skel
  simp only [semSignalWord, semWaitWord, Prog.lift, Prog.bind_op, Prog.bind_ret, Prog.pure_eq_ret]
  refine step_send A K c 8 9 rfl rfl (by decide) (by decide) (to_8 c) rfl rfl rfl rfl ?_
  refine step_left A K c 1 2 rfl rfl (by decide) rfl rfl rfl ?_
  refine step_arrived A K c 1 2 rfl rfl (by decide) rfl rfl rfl ?_
  refine step_ldc A K c 1 (by decide) ?_
  refine step_ldraw A K c 1 rfl (by decide) (by decide) fun _ => ?_
  exact done c ( hk _)

/-- Block 12 of the body: the pieces staged go from 9 to 10, the transfers started from 9 to 10, those seen off from 2 to 3. -/
theorem part_12 {v141 : FVec F S128x512 .f32} {v357 : FVec F S64x256 .bf16} {v358 : Vec F S1x64x256 .bf16} (v3 : BitVec 32) (hv : k0_pay32 v357 = accS A c 1) {Kt : (Σ' (_ : FVec F S64x512 .f32) (_ : BitVec 32), BitVec 32) → sProp 𝕄} (hk : ∀ x y : BitVec 32, St A K c 3 10 10 3 2 0 ⊢ Kt ⟨k0_pay33 v141, x, y⟩) :
    St A K c 3 9 9 2 2 0 ⊢ wp frame (ℰ c none) Set.univ
      (k0_part12 (F := F) a0 h0 a1 h1 a2 h2 a3 h3 a4 h4 a5 h5 a6 h6 a7 h7 cc0_scratch2 cc0_scratch3 c v3 v141 v357 v358) Kt := by
  rw [k0_part12_eq_skeleton]; unfold k0_part12_skel
  simp only [semSignalWord, semWaitWord, Prog.lift, Prog.bind_op, Prog.bind_ret, Prog.pure_eq_ret]
  refine step_put A K c 1 10 rfl rfl (by decide) (by decide) hv ?_
  refine step_send A K c 9 10 rfl rfl (by decide) (by decide) (to_9 c) rfl rfl rfl rfl ?_
  refine step_left A K c 2 3 rfl rfl (by decide) rfl rfl rfl ?_
  exact done c ( hk _ _)

/-- Block 13 of the body: the pieces staged go from 10 to 11, the transfers started from 10 to 11, those received from 2 to 3. -/
theorem part_13 {v371 : FVec F S64x512 .f32} (v4 x y : BitVec 32) (hv : k0_pay35 v371 (cvF A c 2) = accS A c 2) {Kt : FVec F S64x256 .f32 → sProp 𝕄} (hk : St A K c 3 11 11 3 3 0 ⊢ Kt (k0_pay34 v371 (cvF A c 2))) :
    St A K c 3 10 10 3 2 0 ⊢ wp frame (ℰ c none) Set.univ
      (k0_part13 (F := F) a0 h0 a1 h1 a2 h2 a3 h3 a4 h4 a5 h5 a6 h6 a7 h7 cc0_scratch2 cc0_scratch3 c v4 v371 x y) Kt := by
  rw [k0_part13_eq_skeleton]; unfold k0_part13_skel
  simp only [semSignalWord, semWaitWord, Prog.lift, Prog.bind_op, Prog.bind_ret, Prog.pure_eq_ret]
  refine step_arrived A K c 2 3 rfl rfl (by decide) rfl rfl rfl ?_
  refine step_ldc A K c 2 (by decide) ?_
  refine step_ldraw A K c 2 rfl (by decide) (by decide) fun _ => ?_
  refine step_put A K c 2 11 rfl rfl (by decide) (by decide) hv ?_
  refine step_send A K c 10 11 rfl rfl (by decide) (by decide) (to_10 c) rfl rfl rfl rfl ?_
  exact done c hk

/-- Block 14 of the body: the pieces staged go from 11 to 12, those seen off from 3 to 4, those received from 3 to 4. -/
theorem part_14 {v371 : FVec F S64x512 .f32} (v4 : BitVec 32) (hv : k0_pay37 v371 (cvF A c 3) = accS A c 3) {Kt : FVec F S64x256 .f32 → sProp 𝕄} (hk : St A K c 3 12 11 4 4 0 ⊢ Kt (k0_pay36 v371 (cvF A c 3))) :
    St A K c 3 11 11 3 3 0 ⊢ wp frame (ℰ c none) Set.univ
      (k0_part14 (F := F) a0 h0 a1 h1 a2 h2 a3 h3 a4 h4 a5 h5 a6 h6 a7 h7 cc0_scratch2 cc0_scratch3 v4 v371) Kt := by
  rw [k0_part14_eq_skeleton]; unfold k0_part14_skel
  simp only [semSignalWord, semWaitWord, Prog.lift, Prog.bind_op, Prog.bind_ret, Prog.pure_eq_ret]
  refine step_left A K c 3 4 rfl rfl (by decide) rfl rfl rfl ?_
  refine step_arrived A K c 3 4 rfl rfl (by decide) rfl rfl rfl ?_
  refine step_ldc A K c 3 (by decide) ?_
  refine step_ldraw A K c 3 rfl (by decide) (by decide) fun _ => ?_
  refine step_put A K c 3 12 rfl rfl (by decide) (by decide) hv ?_
  exact done c hk

/-- Block 15 of the body: the transfers started go from 11 to 12, those seen off from 4 to 5. -/
theorem part_15 {v259 : FVec F S128x512 .f32} (v3 : BitVec 32) {Kt : FVec F S64x512 .f32 → sProp 𝕄} (hk : St A K c 3 12 12 5 4 0 ⊢ Kt (k0_pay38 v259)) :
    St A K c 3 12 11 4 4 0 ⊢ wp frame (ℰ c none) Set.univ
      (k0_part15 (F := F) a0 h0 a1 h1 a2 h2 a3 h3 a4 h4 a5 h5 a6 h6 a7 h7 cc0_scratch2 cc0_scratch3 c v3 v259) Kt := by
  rw [k0_part15_eq_skeleton]; unfold k0_part15_skel
  simp only [semSignalWord, semWaitWord, Prog.lift, Prog.bind_op, Prog.bind_ret, Prog.pure_eq_ret]
  refine step_send A K c 11 12 rfl rfl (by decide) (by decide) (to_11 c) rfl rfl rfl rfl ?_
  refine step_left A K c 4 5 rfl rfl (by decide) rfl rfl rfl ?_
  exact done c hk

/-- Block 16 of the body: the pieces staged go from 12 to 13, the transfers started from 12 to 13, those received from 4 to 5. -/
theorem part_16 {v438 : FVec F S64x512 .f32} (v4 : BitVec 32) (hv : k0_pay40 v438 (cvF A c 4) = accS A c 4) {Kt : FVec F S64x256 .f32 → sProp 𝕄} (hk : St A K c 3 13 13 5 5 0 ⊢ Kt (k0_pay39 v438 (cvF A c 4))) :
    St A K c 3 12 12 5 4 0 ⊢ wp frame (ℰ c none) Set.univ
      (k0_part16 (F := F) a0 h0 a1 h1 a2 h2 a3 h3 a4 h4 a5 h5 a6 h6 a7 h7 cc0_scratch2 cc0_scratch3 c v4 v438) Kt := by
  rw [k0_part16_eq_skeleton]; unfold k0_part16_skel
  simp only [semSignalWord, semWaitWord, Prog.lift, Prog.bind_op, Prog.bind_ret, Prog.pure_eq_ret]
  refine step_arrived A K c 4 5 rfl rfl (by decide) rfl rfl rfl ?_
  refine step_ldc A K c 4 (by decide) ?_
  refine step_ldraw A K c 4 rfl (by decide) (by decide) fun _ => ?_
  refine step_put A K c 4 13 rfl rfl (by decide) (by decide) hv ?_
  refine step_send A K c 12 13 rfl rfl (by decide) (by decide) (to_12 c) rfl rfl rfl rfl ?_
  exact done c hk

/-- Block 17 of the body: the pieces staged go from 13 to 14, those seen off from 5 to 6, those received from 5 to 6. -/
theorem part_17 {v438 : FVec F S64x512 .f32} (v3 v4 : BitVec 32) (hv : k0_pay42 v438 (cvF A c 5) = accS A c 5) {Kt : FVec F S64x256 .f32 → sProp 𝕄} (hk : St A K c 3 14 13 6 6 0 ⊢ Kt (k0_pay41 v438 (cvF A c 5))) :
    St A K c 3 13 13 5 5 0 ⊢ wp frame (ℰ c none) Set.univ
      (k0_part17 (F := F) a0 h0 a1 h1 a2 h2 a3 h3 a4 h4 a5 h5 a6 h6 a7 h7 cc0_scratch2 cc0_scratch3 v3 v4 v438) Kt := by
  rw [k0_part17_eq_skeleton]; unfold k0_part17_skel
  simp only [semSignalWord, semWaitWord, Prog.lift, Prog.bind_op, Prog.bind_ret, Prog.pure_eq_ret]
  refine step_left A K c 5 6 rfl rfl (by decide) rfl rfl rfl ?_
  refine step_arrived A K c 5 6 rfl rfl (by decide) rfl rfl rfl ?_
  refine step_ldc A K c 5 (by decide) ?_
  refine step_ldraw A K c 5 rfl (by decide) (by decide) fun _ => ?_
  refine step_put A K c 5 14 rfl rfl (by decide) (by decide) hv ?_
  exact done c hk

/-- Block 18 of the body: the transfers started go from 13 to 14, those seen off from 6 to 7, those received from 6 to 7. -/
theorem part_18 {v259 : FVec F S128x512 .f32} (v3 : BitVec 32) {Kt : (Σ' (_ : FVec F S64x512 .f32) (_ : FVec F S64x256 .f32), FVec F S64x256 .bf16) → sProp 𝕄} (hk : St A K c 3 14 14 7 7 0 ⊢ Kt ⟨k0_pay43 v259, k0_pay44 v259 (cvF A c 6), k0_pay45 v259 (cvF A c 6)⟩) :
    St A K c 3 14 13 6 6 0 ⊢ wp frame (ℰ c none) Set.univ
      (k0_part18 (F := F) a0 h0 a1 h1 a2 h2 a3 h3 a4 h4 a5 h5 a6 h6 a7 h7 cc0_scratch2 cc0_scratch3 c v3 v259) Kt := by
  rw [k0_part18_eq_skeleton]; unfold k0_part18_skel
  simp only [semSignalWord, semWaitWord, Prog.lift, Prog.bind_op, Prog.bind_ret, Prog.pure_eq_ret]
  refine step_send A K c 13 14 rfl rfl (by decide) (by decide) (to_13 c) rfl rfl rfl rfl ?_
  refine step_left A K c 6 7 rfl rfl (by decide) rfl rfl rfl ?_
  refine step_arrived A K c 6 7 rfl rfl (by decide) rfl rfl rfl ?_
  refine step_ldc A K c 6 (by decide) ?_
  exact done c hk

/-- Block 19 of the body: the pieces staged go from 14 to 15, the transfers started from 14 to 15, those seen off from 7 to 8. -/
theorem part_19 {v525 : FVec F S64x256 .bf16} (v4 : BitVec 32) (hv : k0_pay46 v525 = accS A c 6) {Kt : BitVec 32 → sProp 𝕄} (hk : ∀ x : BitVec 32, St A K c 3 15 15 8 7 0 ⊢ Kt x) :
    St A K c 3 14 14 7 7 0 ⊢ wp frame (ℰ c none) Set.univ
      (k0_part19 (F := F) a0 h0 a1 h1 a2 h2 a3 h3 a4 h4 a5 h5 a6 h6 a7 h7 cc0_scratch2 cc0_scratch3 c v4 v525) Kt := by
  rw [k0_part19_eq_skeleton]; unfold k0_part19_skel
  simp only [semSignalWord, semWaitWord, Prog.lift, Prog.bind_op, Prog.bind_ret, Prog.pure_eq_ret]
  refine step_ldraw A K c 6 rfl (by decide) (by decide) fun _ => ?_
  refine step_put A K c 6 15 rfl rfl (by decide) (by decide) hv ?_
  refine step_send A K c 14 15 rfl rfl (by decide) (by decide) (to_14 c) rfl rfl rfl rfl ?_
  refine step_left A K c 7 8 rfl rfl (by decide) rfl rfl rfl ?_
  exact done c ( hk _)

/-- Block 20 of the body: the pieces staged go from 15 to 16, the transfers started from 15 to 16, those received from 7 to 8. -/
theorem part_20 {v505 : FVec F S64x512 .f32} (v3 v4 x : BitVec 32) (hv : k0_pay48 v505 (cvF A c 7) = accS A c 7) {Kt : FVec F S64x256 .f32 → sProp 𝕄} (hk : St A K c 3 16 16 8 8 0 ⊢ Kt (k0_pay47 v505 (cvF A c 7))) :
    St A K c 3 15 15 8 7 0 ⊢ wp frame (ℰ c none) Set.univ
      (k0_part20 (F := F) a0 h0 a1 h1 a2 h2 a3 h3 a4 h4 a5 h5 a6 h6 a7 h7 cc0_scratch2 cc0_scratch3 c v3 v4 v505 x) Kt := by
  rw [k0_part20_eq_skeleton]; unfold k0_part20_skel
  simp only [semSignalWord, semWaitWord, Prog.lift, Prog.bind_op, Prog.bind_ret, Prog.pure_eq_ret]
  refine step_arrived A K c 7 8 rfl rfl (by decide) rfl rfl rfl ?_
  refine step_ldc A K c 7 (by decide) ?_
  refine step_ldraw A K c 7 rfl (by decide) (by decide) fun _ => ?_
  refine step_put A K c 7 16 rfl rfl (by decide) (by decide) hv ?_
  refine step_send A K c 15 16 rfl rfl (by decide) (by decide) (to_15 c) rfl rfl rfl rfl ?_
  exact done c hk

/-- Block 21 of the body: the transfers seen off go from 8 to 9, those received from 8 to 9, the result pieces written from 0 to 1. -/
theorem part_21 {acc : FVec F S64x256 .f32} (v3 : BitVec 32) (hv : k0_pay49 acc (cvF A c 8) = outP A c 0) {Kt : PUnit → sProp 𝕄} (hk : St A K c 3 16 16 9 9 1 ⊢ Kt ⟨⟩) :
    St A K c 3 16 16 8 8 0 ⊢ wp frame (ℰ c none) Set.univ
      (k0_part21 (F := F) a0 h0 a1 h1 a2 h2 a3 h3 a4 h4 a5 h5 a6 h6 a7 h7 cc0_scratch2 cc0_scratch3 v3 acc) Kt := by
  rw [k0_part21_eq_skeleton]; unfold k0_part21_skel
  simp only [semSignalWord, semWaitWord, Prog.lift, Prog.bind_op, Prog.bind_ret, Prog.pure_eq_ret]
  refine step_left A K c 8 9 rfl rfl (by decide) rfl rfl rfl ?_
  refine step_arrived A K c 8 9 rfl rfl (by decide) rfl rfl rfl ?_
  refine step_ldc A K c 8 (by decide) ?_
  refine step_out A K c 0 1 rfl rfl hv ?_
  exact done c hk

/-- Block 22 of the body: the transfers seen off go from 9 to 10, those received from 9 to 10, the result pieces written from 1 to 2. -/
theorem part_22 {acc : FVec F S64x256 .f32} (v3 : BitVec 32) (hv : k0_pay50 acc (cvF A c 9) = outP A c 1) {Kt : PUnit → sProp 𝕄} (hk : St A K c 3 16 16 10 10 2 ⊢ Kt ⟨⟩) :
    St A K c 3 16 16 9 9 1 ⊢ wp frame (ℰ c none) Set.univ
      (k0_part22 (F := F) a0 h0 a1 h1 a2 h2 a3 h3 a4 h4 a5 h5 a6 h6 a7 h7 cc0_scratch2 cc0_scratch3 v3 acc) Kt := by
  rw [k0_part22_eq_skeleton]; unfold k0_part22_skel
  simp only [semSignalWord, semWaitWord, Prog.lift, Prog.bind_op, Prog.bind_ret, Prog.pure_eq_ret]
  refine step_left A K c 9 10 rfl rfl (by decide) rfl rfl rfl ?_
  refine step_arrived A K c 9 10 rfl rfl (by decide) rfl rfl rfl ?_
  refine step_ldc A K c 9 (by decide) ?_
  refine step_out A K c 1 2 rfl rfl hv ?_
  exact done c hk

/-- Block 23 of the body: the transfers seen off go from 10 to 11, those received from 10 to 11, the result pieces written from 2 to 3. -/
theorem part_23 {acc : FVec F S64x256 .f32} (v3 : BitVec 32) (hv : k0_pay51 acc (cvF A c 10) = outP A c 2) {Kt : PUnit → sProp 𝕄} (hk : St A K c 3 16 16 11 11 3 ⊢ Kt ⟨⟩) :
    St A K c 3 16 16 10 10 2 ⊢ wp frame (ℰ c none) Set.univ
      (k0_part23 (F := F) a0 h0 a1 h1 a2 h2 a3 h3 a4 h4 a5 h5 a6 h6 a7 h7 cc0_scratch2 cc0_scratch3 v3 acc) Kt := by
  rw [k0_part23_eq_skeleton]; unfold k0_part23_skel
  simp only [semSignalWord, semWaitWord, Prog.lift, Prog.bind_op, Prog.bind_ret, Prog.pure_eq_ret]
  refine step_left A K c 10 11 rfl rfl (by decide) rfl rfl rfl ?_
  refine step_arrived A K c 10 11 rfl rfl (by decide) rfl rfl rfl ?_
  refine step_ldc A K c 10 (by decide) ?_
  refine step_out A K c 2 3 rfl rfl hv ?_
  exact done c hk

/-- Block 24 of the body: the transfers seen off go from 11 to 12, those received from 11 to 12, the result pieces written from 3 to 4. -/
theorem part_24 {acc : FVec F S64x256 .f32} (v3 : BitVec 32) (hv : k0_pay52 acc (cvF A c 11) = outP A c 3) {Kt : PUnit → sProp 𝕄} (hk : St A K c 3 16 16 12 12 4 ⊢ Kt ⟨⟩) :
    St A K c 3 16 16 11 11 3 ⊢ wp frame (ℰ c none) Set.univ
      (k0_part24 (F := F) a0 h0 a1 h1 a2 h2 a3 h3 a4 h4 a5 h5 a6 h6 a7 h7 cc0_scratch2 cc0_scratch3 v3 acc) Kt := by
  rw [k0_part24_eq_skeleton]; unfold k0_part24_skel
  simp only [semSignalWord, semWaitWord, Prog.lift, Prog.bind_op, Prog.bind_ret, Prog.pure_eq_ret]
  refine step_left A K c 11 12 rfl rfl (by decide) rfl rfl rfl ?_
  refine step_arrived A K c 11 12 rfl rfl (by decide) rfl rfl rfl ?_
  refine step_ldc A K c 11 (by decide) ?_
  refine step_out A K c 3 4 rfl rfl hv ?_
  exact done c hk

/-- Block 25 of the body: the transfers seen off go from 12 to 13, those received from 12 to 13, the result pieces written from 4 to 5. -/
theorem part_25 {acc : FVec F S64x256 .f32} (v3 : BitVec 32) (hv : k0_pay53 acc (cvF A c 12) = outP A c 4) {Kt : PUnit → sProp 𝕄} (hk : St A K c 3 16 16 13 13 5 ⊢ Kt ⟨⟩) :
    St A K c 3 16 16 12 12 4 ⊢ wp frame (ℰ c none) Set.univ
      (k0_part25 (F := F) a0 h0 a1 h1 a2 h2 a3 h3 a4 h4 a5 h5 a6 h6 a7 h7 cc0_scratch2 cc0_scratch3 v3 acc) Kt := by
  rw [k0_part25_eq_skeleton]; unfold k0_part25_skel
  simp only [semSignalWord, semWaitWord, Prog.lift, Prog.bind_op, Prog.bind_ret, Prog.pure_eq_ret]
  refine step_left A K c 12 13 rfl rfl (by decide) rfl rfl rfl ?_
  refine step_arrived A K c 12 13 rfl rfl (by decide) rfl rfl rfl ?_
  refine step_ldc A K c 12 (by decide) ?_
  refine step_out A K c 4 5 rfl rfl hv ?_
  exact done c hk

/-- Block 26 of the body: the transfers seen off go from 13 to 14, those received from 13 to 14, the result pieces written from 5 to 6. -/
theorem part_26 {acc : FVec F S64x256 .f32} (v3 : BitVec 32) (hv : k0_pay54 acc (cvF A c 13) = outP A c 5) {Kt : PUnit → sProp 𝕄} (hk : St A K c 3 16 16 14 14 6 ⊢ Kt ⟨⟩) :
    St A K c 3 16 16 13 13 5 ⊢ wp frame (ℰ c none) Set.univ
      (k0_part26 (F := F) a0 h0 a1 h1 a2 h2 a3 h3 a4 h4 a5 h5 a6 h6 a7 h7 cc0_scratch2 cc0_scratch3 v3 acc) Kt := by
  rw [k0_part26_eq_skeleton]; unfold k0_part26_skel
  simp only [semSignalWord, semWaitWord, Prog.lift, Prog.bind_op, Prog.bind_ret, Prog.pure_eq_ret]
  refine step_left A K c 13 14 rfl rfl (by decide) rfl rfl rfl ?_
  refine step_arrived A K c 13 14 rfl rfl (by decide) rfl rfl rfl ?_
  refine step_ldc A K c 13 (by decide) ?_
  refine step_out A K c 5 6 rfl rfl hv ?_
  exact done c hk

/-- Block 27 of the body: the transfers seen off go from 14 to 15, those received from 14 to 15, the result pieces written from 6 to 7. -/
theorem part_27 {acc : FVec F S64x256 .f32} (v3 : BitVec 32) (hv : k0_pay55 acc (cvF A c 14) = outP A c 6) {Kt : PUnit → sProp 𝕄} (hk : St A K c 3 16 16 15 15 7 ⊢ Kt ⟨⟩) :
    St A K c 3 16 16 14 14 6 ⊢ wp frame (ℰ c none) Set.univ
      (k0_part27 (F := F) a0 h0 a1 h1 a2 h2 a3 h3 a4 h4 a5 h5 a6 h6 a7 h7 cc0_scratch2 cc0_scratch3 v3 acc) Kt := by
  rw [k0_part27_eq_skeleton]; unfold k0_part27_skel
  simp only [semSignalWord, semWaitWord, Prog.lift, Prog.bind_op, Prog.bind_ret, Prog.pure_eq_ret]
  refine step_left A K c 14 15 rfl rfl (by decide) rfl rfl rfl ?_
  refine step_arrived A K c 14 15 rfl rfl (by decide) rfl rfl rfl ?_
  refine step_ldc A K c 14 (by decide) ?_
  refine step_out A K c 6 7 rfl rfl hv ?_
  exact done c hk

/-! ## The values handed from part to part -/

/-- What the body stores of piece 0 between the exchanges is the first exchange's sum. -/
theorem acc_0 : k0_pay29 (k0_pay27 (P0 c (A c))) (cvF A c 0) = accS A c 0 := by rw [show cvF A c 0 = cv A c 0 from cvF_lo A c 0]; rfl
/-- What the body stores of piece 1 between the exchanges is the first exchange's sum. -/
theorem acc_1 : k0_pay32 (k0_pay31 (k0_pay27 (P0 c (A c))) (cvF A c 1)) = accS A c 1 := by rw [show cvF A c 1 = cv A c 1 from cvF_lo A c 1]; rfl
/-- What the body stores of piece 2 between the exchanges is the first exchange's sum. -/
theorem acc_2 : k0_pay35 (k0_pay33 (P0 c (A c))) (cvF A c 2) = accS A c 2 := by rw [show cvF A c 2 = cv A c 2 from cvF_lo A c 2]; rfl
/-- What the body stores of piece 3 between the exchanges is the first exchange's sum. -/
theorem acc_3 : k0_pay37 (k0_pay33 (P0 c (A c))) (cvF A c 3) = accS A c 3 := by rw [show cvF A c 3 = cv A c 3 from cvF_lo A c 3]; rfl
/-- What the body stores of piece 4 between the exchanges is the first exchange's sum. -/
theorem acc_4 : k0_pay40 (k0_pay38 (P1 c (A c))) (cvF A c 4) = accS A c 4 := by rw [show cvF A c 4 = cv A c 4 from cvF_lo A c 4]; rfl
/-- What the body stores of piece 5 between the exchanges is the first exchange's sum. -/
theorem acc_5 : k0_pay42 (k0_pay38 (P1 c (A c))) (cvF A c 5) = accS A c 5 := by rw [show cvF A c 5 = cv A c 5 from cvF_lo A c 5]; rfl
/-- What the body stores of piece 6 between the exchanges is the first exchange's sum. -/
theorem acc_6 : k0_pay46 (k0_pay45 (P1 c (A c)) (cvF A c 6)) = accS A c 6 := by rw [show cvF A c 6 = cv A c 6 from cvF_lo A c 6]; rfl
/-- What the body stores of piece 7 between the exchanges is the first exchange's sum. -/
theorem acc_7 : k0_pay48 (k0_pay43 (P1 c (A c))) (cvF A c 7) = accS A c 7 := by rw [show cvF A c 7 = cv A c 7 from cvF_lo A c 7]; rfl
/-- What the body stores of piece 0 at the end is the result's piece. -/
theorem res_0 : k0_pay49 (k0_pay28 (k0_pay27 (P0 c (A c))) (cvF A c 0)) (cvF A c 8) = outP A c 0 := by rw [show cvF A c 0 = cv A c 0 from cvF_lo A c 0]; rfl
/-- What the body stores of piece 1 at the end is the result's piece. -/
theorem res_1 : k0_pay50 (k0_pay30 (k0_pay27 (P0 c (A c))) (cvF A c 1)) (cvF A c 9) = outP A c 1 := by rw [show cvF A c 1 = cv A c 1 from cvF_lo A c 1]; rfl
/-- What the body stores of piece 2 at the end is the result's piece. -/
theorem res_2 : k0_pay51 (k0_pay34 (k0_pay33 (P0 c (A c))) (cvF A c 2)) (cvF A c 10) = outP A c 2 := by rw [show cvF A c 2 = cv A c 2 from cvF_lo A c 2]; rfl
/-- What the body stores of piece 3 at the end is the result's piece. -/
theorem res_3 : k0_pay52 (k0_pay36 (k0_pay33 (P0 c (A c))) (cvF A c 3)) (cvF A c 11) = outP A c 3 := by rw [show cvF A c 3 = cv A c 3 from cvF_lo A c 3]; rfl
/-- What the body stores of piece 4 at the end is the result's piece. -/
theorem res_4 : k0_pay53 (k0_pay39 (k0_pay38 (P1 c (A c))) (cvF A c 4)) (cvF A c 12) = outP A c 4 := by rw [show cvF A c 4 = cv A c 4 from cvF_lo A c 4]; rfl
/-- What the body stores of piece 5 at the end is the result's piece. -/
theorem res_5 : k0_pay54 (k0_pay41 (k0_pay38 (P1 c (A c))) (cvF A c 5)) (cvF A c 13) = outP A c 5 := by rw [show cvF A c 5 = cv A c 5 from cvF_lo A c 5]; rfl
/-- What the body stores of piece 6 at the end is the result's piece. -/
theorem res_6 : k0_pay55 (k0_pay44 (P1 c (A c)) (cvF A c 6)) (cvF A c 14) = outP A c 6 := by rw [show cvF A c 6 = cv A c 6 from cvF_lo A c 6]; rfl
/-- What the body stores of piece 7 at the end is the result's piece. -/
theorem res_7 : k0_pay1 (k0_pay56 (k0_pay47 (k0_pay43 (P1 c (A c))) (cvF A c 7)) (cvF A c 15)) = outP A c 7 := by rw [show cvF A c 7 = cv A c 7 from cvF_lo A c 7]; rfl

/-- The parts in turn. -/
theorem parts {Kt : FVec F S64x256 .bf16 → sProp 𝕄} (hk : St A K c 3 16 16 16 16 7 ⊢ Kt (k0_pay56 (k0_pay47 (k0_pay43 (P1 c (A c))) (cvF A c 7)) (cvF A c 15))) :
    St A K c 0 0 0 0 0 0 ⊢ wp frame (ℰ c none) Set.univ
      (k0_part28 (F := F) a0 h0 a1 h1 a2 h2 a3 h3 a4 h4 a5 h5 a6 h6 a7 h7 cc0_scratch2 cc0_scratch3) Kt := by
  rw [k0_part28_eq_skeleton]; unfold k0_part28_skel
  simp only [Prog.lift]
  rw [wp_bind]; refine part_1 A K c (fun v3 v4 v5 => ?_)
  rw [wp_bind]; refine part_2 A K c _ ?_
  rw [wp_bind]; refine part_3 A K c ?_
  rw [wp_bind]; refine part_4 A K c _ ?_
  rw [wp_bind]; refine part_5 A K c _ _ ?_
  rw [wp_bind]; refine part_6 A K c _ ?_
  rw [wp_bind]; refine part_7 A K c ?_
  rw [wp_bind]; refine part_8 A K c _ _ (fun _ _ => ?_)
  rw [wp_bind]; refine part_9 A K c _ _ _ ?_
  rw [wp_bind]; refine part_10 A K c _ _ (acc_0 A c) ?_
  rw [wp_bind]; refine part_11 A K c _ (fun _ => ?_)
  rw [wp_bind]; refine part_12 A K c _ (acc_1 A c) (fun _ _ => ?_)
  rw [wp_bind]; refine part_13 A K c _ _ _ (acc_2 A c) ?_
  rw [wp_bind]; refine part_14 A K c _ (acc_3 A c) ?_
  rw [wp_bind]; refine part_15 A K c _ ?_
  rw [wp_bind]; refine part_16 A K c _ (acc_4 A c) ?_
  rw [wp_bind]; refine part_17 A K c _ _ (acc_5 A c) ?_
  rw [wp_bind]; refine part_18 A K c _ ?_
  rw [wp_bind]; refine part_19 A K c _ (acc_6 A c) (fun _ => ?_)
  rw [wp_bind]; refine part_20 A K c _ _ _ (acc_7 A c) ?_
  rw [wp_bind]; refine part_21 A K c _ (res_0 A c) ?_
  rw [wp_bind]; refine part_22 A K c _ (res_1 A c) ?_
  rw [wp_bind]; refine part_23 A K c _ (res_2 A c) ?_
  rw [wp_bind]; refine part_24 A K c _ (res_3 A c) ?_
  rw [wp_bind]; refine part_25 A K c _ (res_4 A c) ?_
  rw [wp_bind]; refine part_26 A K c _ (res_5 A c) ?_
  rw [wp_bind]; refine part_27 A K c _ (res_6 A c) ?_
  simp only [Prog.bind_op, Prog.bind_ret, Prog.pure_eq_ret]
  refine step_left A K c 15 16 rfl rfl (by decide) rfl rfl rfl ?_
  refine step_arrived A K c 15 16 rfl rfl (by decide) rfl rfl rfl ?_
  refine step_ldc A K c 15 (by decide) ?_
  exact done c hk

/-- The body, from the state a device starts it in to the state it leaves. -/
theorem body {Kt : PUnit → sProp 𝕄} (hk : St A K c 3 16 16 16 16 8 ⊢ iprop(|={Set.univ}=> Kt ⟨⟩)) :
    St A K c 0 0 0 0 0 0 ⊢ wp frame (ℰ c none) Set.univ
      (cc0_body (F := F) a0 h0 a1 h1 a2 h2 a3 h3 a4 h4 a5 h5 a6 h6 a7 h7 cc0_scratch2 cc0_scratch3) Kt := by
  rw [cc0_body_eq_skeleton]; unfold cc0_body_skel
  simp only [Prog.lift]
  rw [wp_bind]; refine parts A K c ?_
  simp only [Prog.bind_op, Prog.bind_ret, Prog.pure_eq_ret]
  refine step_out A K c 7 8 rfl rfl (res_7 A c) ?_
  exact finish c hk

end Parts

end Cert.KernelIdeal.Tp

end
-- ==== Proof.Region.lean ====
/-
  The kernel's region: what a device enters it with, the opening of its transfer semaphores, the body's obligation, and
  the closing of every semaphore at the end.
-/
module

public import proofs.«01_k».proof.Proof.Body
public import proofs.«01_k».proof.Proof.Gen.KernelIdeal.Frame
public import Idealize.ShloMosaic.Lib.Pipeline.ValueKit.Geometry

@[expose] public section

set_option maxRecDepth 16384

noncomputable section

namespace Cert.KernelIdeal.Tp

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ
local notation "ℰ" => wpE (defs₀ (F := F)) 𝒱₀

/-! ## The kernel's own semaphores -/

/-- The departure and the arrival semaphores. -/
def osem : Fin 2 × Fin 16 → SemLoc sig
  | (0, i) => .dma (sS i)
  | (1, i) => .dma (rS i)

/-- The transfers' semaphores are the kernel's own, and no two coincide. -/
theorem osem_facts : Pipeline.OwnSemFacts spec0 osem := by decide +kernel

omit [FloatOps F] in
/-- The kernel's own semaphores at zero: departures and arrivals. -/
theorem ownSems_eq (c : Dev nD) : (Pipeline.ownSems0 osem c : sProp 𝕄)
    = iprop((bigSep Finset.univ fun i : Fin 16 => semVal (sndCell c i) 0) ∗ bigSep Finset.univ fun i : Fin 16 => semVal (rcvCell c i) 0) := by
  unfold Pipeline.ownSems0
  rw [bigSep_univ_prod]
  exact BI.bigSep_fin_two (fun a : Fin 2 => bigSep Finset.univ fun i : Fin 16 => (semVal ((c : Thread nD τ), osem (a, i)) 0 : sProp 𝕄))

/-! ## The state at the start and at the end -/

section Ends

variable (A : Dev nD → Ins F) (K : GSem nD τ sig → ℕ) (c : Dev nD)

/-- A device's share of the protocol before the region: the meeting, and for every transfer the right to open its two
    semaphores, the tokens of what the device owes and the credit of what comes. -/
def Tk0 : sProp 𝕄 :=
  iprop(info A K ∗ mt c 0
    ∗ (bigSep Finset.univ fun i : Fin 16 => iprop(openTok ER (sndCell c i) ∗ dutyTok ER (sndCell c i) 0 false ∗ dutyTok ER (rcvCell (peer i c) i) 0 false))
    ∗ bigSep Finset.univ fun i : Fin 16 => iprop(openTok ER (rcvCell c i) ∗ cred (tallyAt (rcvCell c i) () N)))

/-- The same with the transfers' semaphores open. -/
def Xk0 : sProp 𝕄 :=
  iprop(info A K ∗ mt c 0 ∗ bigSep Finset.univ (txR (F := F) c)
    ∗ bigSep Finset.univ fun i : Fin 16 => iprop(rxNew (F := F) c i ∗ reached ER (rcvCell c i) 0))

/-- One departure semaphore opened. -/
theorem open_snd (i : Fin 16) :
    iprop(info A K ∗ (semVal (sndCell c i) 0 ∗ (openTok ER (sndCell c i) ∗ dutyTok ER (sndCell c i) 0 false ∗ dutyTok ER (rcvCell (peer i c) i) 0 false)))
      ⊢ (iprop(|={Set.univ}=> txR (F := F) c i) : sProp 𝕄) := by
  iintro ⟨#HI, Hv, Ho, H1, H2⟩
  ihave #Hc := (info_snd A K c i) $$ HI
  imod (Rounds.cell_open ER (rd0 A) (g := sndCell c i) (Set.mem_univ (K (sndCell c i)))) $$ [Ho Hv] with ⟨Hat, Hr⟩
  · isplitr; · iexact Hc
    isplitl [Ho] <;> iassumption
  imodintro
  unfold txR
  isplitl [Hat]; · iexact Hat
  isplitl [Hr]; · iexact Hr
  isplitl [H1] <;> iassumption

/-- One arrival semaphore opened. -/
theorem open_rcv (i : Fin 16) :
    iprop(info A K ∗ (semVal (rcvCell c i) 0 ∗ (openTok ER (rcvCell c i) ∗ cred (tallyAt (rcvCell c i) () N))))
      ⊢ (iprop(|={Set.univ}=> (rxNew (F := F) c i ∗ reached ER (rcvCell c i) 0)) : sProp 𝕄) := by
  iintro ⟨#HI, Hv, Ho, H1⟩
  ihave #Hc := (info_rcv A K c i) $$ HI
  imod (Rounds.cell_open ER (rd0 A) (g := rcvCell c i) (Set.mem_univ (K (rcvCell c i)))) $$ [Ho Hv] with ⟨Hat, Hr⟩
  · isplitr; · iexact Hc
    isplitl [Ho] <;> iassumption
  imodintro
  unfold rxNew
  isplitr [Hr]
  · isplitl [H1] <;> iassumption
  iexact Hr

/-- A persistent fact beside a family turns each summand by an update. -/
theorem eachUpd {I : Type} [Fintype I] [DecidableEq I] (R : sProp (MT nD τ sig Unit (Elt F) ℕ UU ℕ)) [BI.Persistent R]
    {Φ Ψ : I → sProp (MT nD τ sig Unit (Elt F) ℕ UU ℕ)} (h : ∀ i, iprop(R ∗ Φ i) ⊢ iprop(|={Set.univ}=> Ψ i)) :
    iprop(R ∗ bigSep Finset.univ Φ) ⊢ iprop(|={Set.univ}=> bigSep Finset.univ Ψ) :=
  (bigSep_with_persistent (S := Finset.univ) (R := R) fun i _ => h i).trans (bigSep_fupd _ _)

omit [FloatOps F] in
/-- Two families as one of pairs, -/
theorem pair {I : Type} [Fintype I] [DecidableEq I] {Φ Ψ : I → sProp (MT nD τ sig Unit (Elt F) ℕ UU ℕ)} :
    iprop(bigSep Finset.univ Φ ∗ bigSep Finset.univ Ψ) ⊢ bigSep Finset.univ fun i => iprop(Φ i ∗ Ψ i) :=
  Entails.of_eq (bigSep_sep' _ _ _).symm
omit [FloatOps F] in
/-- and back. -/
theorem unpair {I : Type} [Fintype I] [DecidableEq I] {Φ Ψ : I → sProp (MT nD τ sig Unit (Elt F) ℕ UU ℕ)} :
    bigSep Finset.univ (fun i => iprop(Φ i ∗ Ψ i)) ⊢ iprop(bigSep Finset.univ Φ ∗ bigSep Finset.univ Ψ) :=
  Entails.of_eq (bigSep_sep' _ _ _)

/-- A device about to enter the region holds the opening rights, and leaves the opening with the semaphores open. -/
theorem opens :
    iprop(Tk0 A K c ∗ Pipeline.ownSems0 osem c) ⊢ (iprop(|={Set.univ}=> Xk0 A K c) : sProp 𝕄) := by
  rw [ownSems_eq]; unfold Tk0 Xk0
  iintro ⟨⟨#HI, Hm, Hs, Hr⟩, Hvs, Hvr⟩
  imod (eachUpd (info A K) (open_snd A K c)) $$ [Hs Hvs] with Hs
  · isplitr; · iexact HI
    iapply pair; isplitl [Hvs] <;> iassumption
  imod (eachUpd (info A K) (open_rcv A K c)) $$ [Hr Hvr] with Hr
  · isplitr; · iexact HI
    iapply pair; isplitl [Hvr] <;> iassumption
  imodintro
  isplitr; · iexact HI
  isplitl [Hm]; · iexact Hm
  isplitl [Hs] <;> iassumption

/-! ### The buffers in pieces and whole -/

/-- The send buffer, the receive buffer and the result's staging buffer, whole at contents not chosen. -/
def whole6 : sProp 𝕄 := iprop(∃ f : Buf (Elt F) ((c : Thread nD τ).loc cc0_scratch0), ((c : Thread nD τ).loc cc0_scratch0) ↦{fullShare} f)
def whole7 : sProp 𝕄 := iprop(∃ f : Buf (Elt F) ((c : Thread nD τ).loc cc0_scratch1), ((c : Thread nD τ).loc cc0_scratch1) ↦{fullShare} f)

omit [FloatOps F] in
/-- The whole send buffer falls into its pieces. -/
theorem cut6 : whole6 (F := F) c ⊢ bigSep Finset.univ fun i : Fin 16 => iprop(∃ f, sP c i f) := by
  unfold whole6
  iintro ⟨%f, H⟩
  iapply (each (Φ := fun i : Fin 16 => (sP c i f : sProp 𝕄)) fun i => by iintro H; iexists f; iexact H)
  rw [Ring.pointsTo_blocks (ℓ := (c : Thread nD τ).loc cc0_scratch0) pSet pSet_disjoint pSet_cover f]
  exact BI.Entails.refl _
omit [FloatOps F] in
/-- The whole receive buffer falls into its pieces. -/
theorem cut7 : whole7 (F := F) c ⊢ bigSep Finset.univ fun i : Fin 16 => iprop(∃ f, rP c i f) := by
  unfold whole7
  iintro ⟨%f, H⟩
  iapply (each (Φ := fun i : Fin 16 => (rP c i f : sProp 𝕄)) fun i => by iintro H; iexists f; iexact H)
  rw [Ring.pointsTo_blocks (ℓ := (c : Thread nD τ).loc cc0_scratch1) pSet pSet_disjoint pSet_cover f]
  exact BI.Entails.refl _
/-- The send pieces make up the whole send buffer. -/
theorem join6 : (bigSep Finset.univ fun i : Fin 16 => (sP c i (SF A c) : sProp 𝕄)) ⊢ whole6 (F := F) c := by
  unfold whole6
  rw [← Ring.pointsTo_blocks (ℓ := (c : Thread nD τ).loc cc0_scratch0) pSet pSet_disjoint pSet_cover (SF A c)]
  iintro H; iexists (SF A c); iexact H
/-- The received pieces make up the whole receive buffer. -/
theorem join7 : (bigSep Finset.univ fun i : Fin 16 => (rP c i (SF A (peer i c)) : sProp 𝕄)) ⊢ whole7 (F := F) c := by
  unfold whole7
  exact Ring.pointsTo_blocks_join (ℓ := (c : Thread nD τ).loc cc0_scratch1) pSet pSet_disjoint pSet_cover (fun i => SF A (peer i c)) (SF A c)
omit [FloatOps F] in
/-- The result's buffer falls into its pieces. -/
theorem cut5 (f : (cc0_stg5_0 : Ref sig .tc).ty.Contents (Elt F)) :
    ((((c : Thread nD τ).loc cc0_stg5_0) ↦{fullShare} f) : sProp 𝕄) ⊢ bigSep Finset.univ fun j : Fin 8 => iprop(∃ f, oP c j f) := by
  iintro H
  iapply (each (Φ := fun j : Fin 8 => (oP c j f : sProp 𝕄)) fun j => by iintro H; iexists f; iexact H)
  rw [Ring.pointsTo_blocks (ℓ := (c : Thread nD τ).loc cc0_stg5_0) oSet oSet_disjoint oSet_cover f]
  exact BI.Entails.refl _
omit [FloatOps F] in
/-- The result's pieces make up its buffer. -/
theorem join5 (f : (cc0_stg5_0 : Ref sig .tc).ty.Contents (Elt F)) :
    (bigSep Finset.univ fun j : Fin 8 => (oP c j f : sProp 𝕄)) ⊢ (((c : Thread nD τ).loc cc0_stg5_0) ↦{fullShare} f) := by
  rw [Ring.pointsTo_blocks (ℓ := (c : Thread nD τ).loc cc0_stg5_0) oSet oSet_disjoint oSet_cover f]

/-- What a device enters the body with makes the body's first state. -/
theorem start (f : (cc0_stg5_0 : Ref sig .tc).ty.Contents (Elt F)) (W : Waits sig Unit) :
    iprop(Xk0 A K c ∗ whole6 (F := F) c ∗ whole7 (F := F) c ∗ owes (c : Thread nD τ) (owed c 0 0) W ∗ ins A c
        ∗ (((c : Thread nD τ).loc cc0_stg5_0) ↦{fullShare} f))
      ⊢ St A K c 0 0 0 0 0 0 := by
  unfold Xk0 St
  iintro ⟨⟨#HI, Hm, Ht, Hr⟩, H6, H7, HO, Hin, H5⟩
  ihave H6 := (cut6 c) $$ H6
  ihave H7 := (cut7 c) $$ H7
  ihave H5 := (cut5 c f) $$ H5
  ihave Hr := unpair $$ Hr
  icases Hr with ⟨Hr, Hre⟩
  isplitr; · iexact HI
  isplitl [HO]; · iexists W; iexact HO
  isplitl [Hm]; · iexact Hm
  isplitl [Ht H6]
  · iapply (each (Φ := fun i : Fin 16 => iprop((∃ f, sP c i f) ∗ txR (F := F) c i)) fun i => by
      rw [tx_new A c (Nat.zero_le _) (Nat.zero_le _), txNew_raw A c (Nat.zero_le _)])
    iapply pair; isplitl [H6] <;> iassumption
  isplitl [Hr]
  · iapply (each (Φ := rxNew (F := F) c) fun i => by rw [rx_new A c (Nat.zero_le _)])
    iexact Hr
  isplitl [H7 Hre]
  · iapply (each (Φ := fun i : Fin 16 => iprop((∃ f, rP c i f) ∗ reached ER (rcvCell c i) 0)) fun i => by
      rw [rm_0]; unfold rFree; exact BI.Entails.refl _)
    iapply pair; isplitl [H7] <;> iassumption
  isplitl [H5]
  · iapply (each (Φ := fun j : Fin 8 => iprop(∃ f, oP c j f)) fun j => by unfold ot; rw [if_neg (Nat.not_lt_zero _)])
    iexact H5
  iexact Hin

/-- One departure semaphore closed, its piece back. -/
theorem close_snd (i : Fin 16) : iprop(info A K ∗ tx A c 16 16 16 i) ⊢ (iprop(|={Set.univ}=> (sP c i (SF A c) ∗ semVal (sndCell c i) 0)) : sProp 𝕄) := by
  rw [tx_done A c i.isLt]; unfold txDone
  iintro ⟨#HI, HP, Hat⟩
  ihave #Hc := (info_snd A K c i) $$ HI
  imod (Rounds.cell_close ER (rd0 A) (g := sndCell c i) (Set.mem_univ (K (sndCell c i))) id (duties_later A _)) $$ [Hat] with Hv
  · isplitr; · iexact Hc
    iexact Hat
  imodintro
  isplitl [HP] <;> iassumption
/-- One arrival semaphore closed, its piece back. -/
theorem close_rcv (i : Fin 16) : iprop(info A K ∗ rx A c 16 i) ⊢ (iprop(|={Set.univ}=> (rP c i (SF A (peer i c)) ∗ semVal (rcvCell c i) 0)) : sProp 𝕄) := by
  rw [rx_done A c i.isLt]; unfold rxDone
  iintro ⟨#HI, HP, Hat⟩
  ihave #Hc := (info_rcv A K c i) $$ HI
  imod (Rounds.cell_close ER (rd0 A) (g := rcvCell c i) (Set.mem_univ (K (rcvCell c i))) id (duties_later A _)) $$ [Hat] with Hv
  · isplitr; · iexact Hc
    iexact Hat
  imodintro
  isplitl [HP] <;> iassumption
/-- The meeting's semaphore closed. -/
theorem close_bar : iprop(info A K ∗ mt (F := F) c 3) ⊢ (iprop(|={Set.univ}=> semVal (barCell c) 0) : sProp 𝕄) := by
  rw [mt_3]
  iintro ⟨#HI, Hat, -⟩
  ihave #Hc := (info_bar A K c) $$ HI
  imod (Rounds.cell_close ER (rd0 A) (g := barCell c) (Set.mem_univ (K (barCell c))) id (duties_later A _)) $$ [Hat] with Hv
  · isplitr; · iexact Hc
    iexact Hat
  imodintro
  iexact Hv

/-- The body's last state makes what a device leaves it with. -/
theorem ends : St A K c 3 16 16 16 16 8 ⊢ (iprop(|={Set.univ}=> (semVal (barCell c) 0 ∗ Pipeline.ownSems0 osem c ∗ whole6 (F := F) c ∗ whole7 (F := F) c
      ∗ (∃ W, owes (c : Thread nD τ) (0 : CellTallies nD τ sig Unit) W) ∗ ins A c ∗ (((c : Thread nD τ).loc cc0_stg5_0) ↦{fullShare} (outF A c)))) : sProp 𝕄) := by
  unfold St
  rw [ownSems_eq, owed_late c 3 16 (by decide), owe_done]
  iintro ⟨#HI, HO, Hm, Ht, Hr, -, Ho, Hin⟩
  imod (close_bar A K c) $$ [Hm] with Hb
  · isplitr; · iexact HI
    iexact Hm
  imod (eachUpd (info A K) (close_snd A K c)) $$ [Ht] with Ht
  · isplitr; · iexact HI
    iexact Ht
  imod (eachUpd (info A K) (close_rcv A K c)) $$ [Hr] with Hr
  · isplitr; · iexact HI
    iexact Hr
  ihave Ht := unpair $$ Ht
  icases Ht with ⟨H6, Hvs⟩
  ihave Hr := unpair $$ Hr
  icases Hr with ⟨H7, Hvr⟩
  ihave H6 := (join6 A c) $$ H6
  ihave H7 := (join7 A c) $$ H7
  ihave H5 := (each (Ψ := fun j : Fin 8 => (oP c j (outF A c) : sProp 𝕄)) fun j => by unfold ot; rw [if_pos j.isLt]) $$ Ho
  ihave H5 := (join5 c (outF A c)) $$ H5
  imodintro
  isplitl [Hb]; · iexact Hb
  isplitl [Hvs Hvr]; · isplitl [Hvs] <;> iassumption
  isplitl [H6]; · iexact H6
  isplitl [H7]; · iexact H7
  isplitl [HO]; · iexact HO
  isplitl [Hin]; · iexact Hin
  iexact H5

end Ends

/-! ## The region's proof data -/

variable (m : (ℓ : Loc nD τ sig) → Buf (Elt F) ℓ) (ρ : Dev nD → PrngReg)

/-- What the region finds on each device: the five blocks, each a whole array. -/
def A (c : Dev nD) : Ins F := ⟨V m c main_arg0, V m c main_arg1, V m c main_v1, V m c main_v2, V m c main_arg4⟩

def Xk (c : Dev nD) : sProp 𝕄 := iprop(∃ K, Xk0 (A m) K c)
def Tk (c : Dev nD) : sProp 𝕄 := iprop(∃ K, Tk0 (A m) K c)

def Φ0 (c : Dev nD) : sProp 𝕄 := iprop(Xk m c ∗ whole6 (F := F) c ∗ whole7 (F := F) c ∗ ∃ r, prngReg c r)
def Φ1 (c : Dev nD) : sProp 𝕄 :=
  iprop(semVal (barCell c) 0 ∗ Pipeline.ownSems0 osem c ∗ whole6 (F := F) c ∗ whole7 (F := F) c ∗ ∃ r, prngReg c r)

def dat (c : Dev nD) : Dat τ (Elt F) Unit ℕ UU ℕ cfg0 c where
  A w := V m c (Pipeline.arrRef spec0 w)
  after w _ := match w with
    | ⟨0, _⟩ => (A m c).x
    | ⟨1, _⟩ => (A m c).wq
    | ⟨2, _⟩ => (A m c).k
    | ⟨3, _⟩ => (A m c).v
    | ⟨4, _⟩ => (A m c).wo
    | ⟨5, _⟩ => outF (A m) c
    | ⟨_ + 6, h⟩ => absurd h (Nat.not_lt.2 (Nat.le_add_left _ _))
  Φ t := if t.val = 0 then Φ0 m c else Φ1 c
  q _ := fullShare
  owed t := if t.val = 0 then owed c 0 0 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

omit [FloatOps F] in
/-- Every window's one block starts at the array's start. -/
theorem index_zero : ∀ (w : Fin cfg0.W) (a), (cfg0.win w).index t0_0 a = 0 := by decide +kernel

/-- The first block holds the input. -/
theorem before0 (c : Dev nD) (t : Fin cfg0.N) (d) : (dat m c).before 0 t d = (A m c).x := by
  unfold Dat.before; rw [if_pos (fetch0_0 t)]
  obtain rfl := fin_N0 t
  exact funext fun j => congrArg (V m c main_arg0) (funext fun a => Fin.ext ((cfg0.win 0).rect_emb_val_of_index_zero t0_0 a (index_zero 0 a) _))
/-- The second block holds the device's query weights. -/
theorem before1 (c : Dev nD) (t : Fin cfg0.N) (d) : (dat m c).before 1 t d = (A m c).wq := by
  unfold Dat.before; rw [if_pos (fetch0_1 t)]
  obtain rfl := fin_N0 t
  exact funext fun j => congrArg (V m c main_arg1) (funext fun a => Fin.ext ((cfg0.win 1).rect_emb_val_of_index_zero t0_0 a (index_zero 1 a) _))
/-- The third block holds the keys. -/
theorem before2 (c : Dev nD) (t : Fin cfg0.N) (d) : (dat m c).before 2 t d = (A m c).k := by
  unfold Dat.before; rw [if_pos (fetch0_2 t)]
  obtain rfl := fin_N0 t
  exact funext fun j => congrArg (V m c main_v1) (funext fun a => Fin.ext ((cfg0.win 2).rect_emb_val_of_index_zero t0_0 a (index_zero 2 a) _))
/-- The fourth block holds the values. -/
theorem before3 (c : Dev nD) (t : Fin cfg0.N) (d) : (dat m c).before 3 t d = (A m c).v := by
  unfold Dat.before; rw [if_pos (fetch0_3 t)]
  obtain rfl := fin_N0 t
  exact funext fun j => congrArg (V m c main_v2) (funext fun a => Fin.ext ((cfg0.win 3).rect_emb_val_of_index_zero t0_0 a (index_zero 3 a) _))
/-- The fifth block holds the device's output weights. -/
theorem before4 (c : Dev nD) (t : Fin cfg0.N) (d) : (dat m c).before 4 t d = (A m c).wo := by
  unfold Dat.before; rw [if_pos (fetch0_4 t)]
  obtain rfl := fin_N0 t
  exact funext fun j => congrArg (V m c main_arg4) (funext fun a => Fin.ext ((cfg0.win 4).rect_emb_val_of_index_zero t0_0 a (index_zero 4 a) _))

/-- At the end of the region the output array holds the device's result. -/
theorem arrAt5 (c : Dev nD) : (dat m c).arrAt 5 cfg0.N = outF (A m) c :=
  (dat m c).arrAt_eq_of_after_last 5 t0_0 (by decide +kernel) _ fun _ => rfl

/-- On entering the region a device owes everything. -/
theorem owed_first (c : Dev nD) : (pdats m 0 c).owed 0 = owed c 0 0 := by
  show (if ((0 : Fin (cfg0.N + 1)).val = 0) then owed c 0 0 else 0) = owed c 0 0; exact if_pos rfl
/-- On leaving the region a device owes nothing. -/
theorem owed_last (c : Dev nD) : (pdats m 0 c).owed (Fin.last _) = 0 := by
  show (if (Fin.last cfg0.N).val = 0 then owed c 0 0 else 0) = 0
  rw [Fin.val_last, if_neg (by rw [show cfg0.N = 1 from N_0]; decide)]

/-- What a device owes, in the region's form. -/
theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0, show (dat m c).recorded t = Set.univ from rfl]
  iintro HO; iexists W; isplitr; · ipureintro; exact fun _ _ => Or.inl trivial
  iexact HO
/-- What a device owes, out of the region's form. -/
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

omit [FloatOps F] in
/-- Owning a whole buffer at given contents, spelled out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ0 m c ∗ (dat m c).owesAt () t0_0.castSucc
    ∗ (∃ d, stg c cc0_stg0_0 ((dat m c).before 0 t0_0 d)) ∗ (∃ d, stg c cc0_stg1_0 ((dat m c).before 1 t0_0 d))
    ∗ (∃ d, stg c cc0_stg2_0 ((dat m c).before 2 t0_0 d)) ∗ (∃ d, stg c cc0_stg3_0 ((dat m c).before 3 t0_0 d))
    ∗ (∃ d, stg c cc0_stg4_0 ((dat m c).before 4 t0_0 d)) ∗ (∃ d, stg c cc0_stg5_0 ((dat m c).before 5 t0_0 d)))
def bodyPost (c : Dev nD) : sProp 𝕄 :=
  iprop(Φ1 c ∗ (dat m c).owesAt () t0_0.succ
    ∗ stg c cc0_stg0_0 (A m c).x ∗ stg c cc0_stg1_0 (A m c).wq ∗ stg c cc0_stg2_0 (A m c).k ∗ stg c cc0_stg3_0 (A m c).v
    ∗ stg c cc0_stg4_0 (A m c).wo ∗ stg c cc0_stg5_0 (outF (A m) c))

/-- The last state and the generator's register make what the body must leave. -/
theorem body_post (K : GSem nD τ sig → ℕ) (c : Dev nD) :
    St (A m) K c 3 16 16 16 16 8 ⊢ (iprop(|={Set.univ}=> ((∃ r, prngReg c r) -∗ bodyPost m c)) : sProp 𝕄) := by
  iintro HS
  imod (ends (A m) K c) $$ HS with ⟨Hb, Hos, H6, H7, HO, Hin, H5⟩
  imodintro
  iintro Hp
  unfold bodyPost Φ1 ins
  icases HO with ⟨%W, HO⟩
  icases Hin with ⟨Hx, Hq, Hk, Hv, Hw⟩
  isplitl [Hb Hos H6 H7 Hp]
  · isplitl [Hb]; · iexact Hb
    isplitl [Hos]; · iexact Hos
    isplitl [H6]; · iexact H6
    isplitl [H7] <;> iassumption
  isplitl [HO]; · iapply (owesAt_intro m c t0_0.succ 0 (owed_last m c) W); iexact HO
  isplitl [Hx]; · iexists _; isplitr; · ipureintro; rfl
                  iexact Hx
  isplitl [Hq]; · iexists _; isplitr; · ipureintro; rfl
                  iexact Hq
  isplitl [Hk]; · iexists _; isplitr; · ipureintro; rfl
                  iexact Hk
  isplitl [Hv]; · iexists _; isplitr; · ipureintro; rfl
                  iexact Hv
  isplitl [Hw]; · iexists _; isplitr; · ipureintro; rfl
                  iexact Hw
  iexists _; isplitr; · ipureintro; rfl
  iexact H5

/-- What the region gives its body is the state the body starts from. -/
theorem body_pre (c : Dev nD) :
    bodyPre m c ⊢ (iprop(∃ K, St (A m) K c 0 0 0 0 0 0 ∗ ∃ r, prngReg c r) : sProp 𝕄) := by
  unfold bodyPre Φ0 Xk
  iintro ⟨⟨⟨%K, HX⟩, H6, H7, Hp⟩, HO, ⟨%d0, %g0, %e0, Hx⟩, ⟨%d1, %g1, %e1, Hq⟩, ⟨%d2, %g2, %e2, Hk⟩, ⟨%d3, %g3, %e3, Hv⟩, ⟨%d4, %g4, %e4, Hw⟩, ⟨%d5, %g5, %e5, H5⟩⟩
  rw [before0] at e0; rw [before1] at e1; rw [before2] at e2; rw [before3] at e3; rw [before4] at e4
  subst e0 e1 e2 e3 e4
  ihave HO := (owesAt_elim m c t0_0.castSucc (owed c 0 0) (owed_first m c)) $$ HO
  icases HO with ⟨%W, HO⟩
  iexists K
  isplitr [Hp]; swap; · iexact Hp
  iapply (start (A m) K c g5 W)
  isplitl [HX]; · iexact HX
  isplitl [H6]; · iexact H6
  isplitl [H7]; · iexact H7
  isplitl [HO]; · iexact HO
  isplitr [H5]; swap; · iexact H5
  unfold ins
  isplitl [Hx]; · iexact Hx
  isplitl [Hq]; · iexact Hq
  isplitl [Hk]; · iexact Hk
  isplitl [Hv]; · iexact Hv
  iexact Hw

/-- The body's obligation. -/
theorem body_run (c : Dev nD) : bodyPre m c ⊢ wp frame (ℰ c none) Set.univ
      (cc0_body (F := F) a0 h0 a1 h1 a2 h2 a3 h3 a4 h4 a5 h5 a6 h6 a7 h7 cc0_scratch2 cc0_scratch3) (fun _ => bodyPost m c) := by
  refine (body_pre m c).trans ?_
  iintro ⟨%K, HS, Hp⟩
  iapply (wp_wand_r frame _ Set.univ)
  isplitl [HS]
  · iapply (body (A m) K c (Kt := fun _ => iprop((∃ r, prngReg c r) -∗ bodyPost m c)) (body_post m K c)) $$ HS
  iintro %_ HS
  iapply HS; iexact Hp

/-- The body meets the region's requirement. -/
theorem body_obligation (c : Dev nD) : BodyObligation (dat m c) (defs₀ (F := F)) 𝒱₀ () Set.univ := fun t => by
  rw [fin_N0 t]
  rw [bigSep_W0, bigSep_W0]
  simp only [owns_whole_eq]
  show bodyPre m c ⊢ wp frame (ℰ c none) Set.univ
    (cc0_body (F := F) a0 h0 a1 h1 a2 h2 a3 h3 a4 h4 a5 h5 a6 h6 a7 h7 cc0_scratch2 cc0_scratch3) (fun _ => bodyPost m c)
  exact body_run m c

end Cert.KernelIdeal.Tp

end
-- ==== Proof.Launch.lean ====
/-
  The launch: the protocol's semaphores funded and dealt over the four devices, @main as a host stretch and the region,
  and the run of the whole program.
-/
module

public import proofs.«01_k».proof.Proof.Region

@[expose] public section

set_option maxRecDepth 16384

noncomputable section

namespace Cert.KernelIdeal.Tp

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ
local notation "ℰ" => wpE (defs₀ (F := F)) 𝒱₀

variable (m : (ℓ : Loc nD τ sig) → Buf (Elt F) ℓ) (ρ : Dev nD → PrngReg)

/-! ## The region as a segment -/

/-- The buffers of a device at launch, when the region is entered, and when it is left. -/
abbrev W₀ (c : Dev nD) : Valuation τ sig (Elt F) := fun b => m ((c : Dev nD), b)
abbrev W₁ (c : Dev nD) : Valuation τ sig (Elt F) := StableHlo.after hostOps0 (W₀ m c)
abbrev W₂ (c : Dev nD) : Valuation τ sig (Elt F) := Function.update (W₁ m c) (Proc.devRef .tc main_v3) (outF (A m) c)

/-- The buffers no window of the region reads or writes. -/
abbrev rest : Finset (DevRef τ sig) := Pipeline.ucRefs τ sig \ Pipeline.arrRefs (τ := τ) spec0

omit [FloatOps F] in
/-- The region's arrays are among the device's buffers. -/
theorem arr_sub : Pipeline.arrRefs (τ := τ) spec0 ⊆ Pipeline.ucRefs τ sig := Pipeline.arrRefs_sub_ucRefs spec0 (by decide)

omit [FloatOps F] in
/-- Holding no buffers is holding nothing. -/
theorem held_none (c : Dev nD) (W : Valuation τ sig (Elt F)) : (StableHlo.held (c : Thread nD τ) ∅ W : sProp 𝕄) = BI.emp := by
  unfold StableHlo.held; exact BI.bigSep_empty

/-- The region leaves every buffer outside its windows as it was. -/
theorem W₂_rest (c : Dev nD) : ∀ b ∈ rest \ (∅ : Finset (DevRef τ sig)), W₂ m c b = W₁ m c b := fun b hb => by
  refine Function.update_of_ne (fun h => ?_) _ _
  subst h
  exact (Finset.mem_sdiff.mp (Finset.mem_sdiff.mp hb).1).2 (Finset.mem_map.mpr ⟨main_v3, Finset.mem_image.mpr ⟨5, Finset.mem_univ _, rfl⟩, rfl⟩)

/-- Entering the region opens the transfers' semaphores. -/
theorem enter (c : Dev nD) : iprop(Tk m c ∗ Pipeline.ownSems0 osem c ∗ levAts L lv) ⊢ (iprop(|={Set.univ}=> Xk m c) : sProp 𝕄) := by
  unfold Tk Xk
  iintro ⟨⟨%K, HT⟩, Ho, -⟩
  imod (opens (A m) K c) $$ [HT Ho] with HX
  · isplitl [HT] <;> iassumption
  imodintro
  iexists K; iexact HX

/-- What enters the region is what its body is promised. -/
theorem hin (c : Dev nD) : iprop(Pipeline.scopedRest (Pipeline.pin (pcfgs (F := F)) adm 0).spec c ∗ (∃ r, prngReg c r)
      ∗ StableHlo.held (c.tc : Thread nD τ) ∅ (W₁ m c) ∗ Xk m c) ⊢ ((pdats m 0 c).Φ 0 : sProp 𝕄) := by
  rw [show (pdats m 0 c).Φ 0 = Φ0 m c from by
    show (if ((0 : Fin (cfg0.N + 1)).val = 0) then Φ0 m c else Φ1 c) = _; exact if_pos rfl, show (Pipeline.pin (pcfgs (F := F)) adm 0).spec = spec0 from rfl, scopedRest0_eq]
  unfold Φ0 whole6 whole7
  iintro ⟨⟨H6, H7⟩, Hp, -, HX⟩
  isplitl [HX]; · iexact HX
  isplitl [H6]; · iexact H6
  isplitl [H7] <;> iassumption

/-- What the body leaves is what the region gives back. -/
theorem hout (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (W₂ m c) ∗ Pipeline.ownSems0 osem c ∗ semVal (barCell c) 0) := by
  rw [show (pdats m 0 c).Φ (Fin.last (Pipeline.pin (pcfgs (F := F)) adm 0).N) = Φ1 c from by
      show (if (Fin.last cfg0.N).val = 0 then Φ0 m c else Φ1 c) = _
      rw [Fin.val_last, if_neg (by rw [show cfg0.N = 1 from N_0]; decide)],
    show (Pipeline.pin (pcfgs (F := F)) adm 0).spec = spec0 from rfl, scopedRest0_eq, held_none]
  unfold Φ1 whole6 whole7
  iintro ⟨Hb, Ho, H6, H7, Hp⟩
  isplitl [H6 H7]; · isplitl [H6] <;> iassumption
  isplitl [Hp]; · iexact Hp
  isplitr; · iempintro
  isplitl [Ho] <;> iassumption

omit [FloatOps F] in
/-- All a device owes is arrivals and raises of the meeting. -/
theorem owed_cases {c : Dev nD} {g : GSem nD τ sig} {u : Unit} (h : 0 < owed c 0 0 g u) :
    (∃ (d : Dev nD) (i : Fin 16), g = rcvCell d i) ∨ ∃ d, g = barCell d := by
  unfold owed at h
  rw [if_pos (by decide), if_pos rfl] at h
  simp only [Pi.add_apply, Finsupp.add_apply] at h
  rcases Nat.add_pos_iff_pos_or_pos.mp h with h | h
  · obtain ⟨i, -, e⟩ := owe_pos h; exact .inl ⟨_, i, e⟩
  refine .inr ?_
  rcases Nat.add_pos_iff_pos_or_pos.mp h with h | h
  all_goals
    rw [tallyAt_apply] at h
    split at h
    · next hg => exact ⟨_, hg.1⟩
    · exact absurd h (Nat.lt_irrefl 0)

/-- Everything owed in the region has a positive level. -/
theorem cutD (c : Dev nD) (t : Fin ((Pipeline.pin (pcfgs (F := F)) adm 0).N + 1)) (g : GSem nD τ sig) (i : Unit)
    (h : 0 < (pdats m 0 c).owed t g i) : i ∈ L g ∧ (0 : ℕ) < lv g i := by
  rw [show (pdats m 0 c).owed t = if t.val = 0 then owed c 0 0 else 0 from rfl] at h
  split at h
  · rcases owed_cases h with ⟨d, i, rfl⟩ | ⟨d, rfl⟩
    · exact ⟨by rw [L_tc]; exact Finset.mem_singleton_self _, by rw [lv_rcv]; split <;> decide⟩
    · exact ⟨by rw [L_tc]; exact Finset.mem_singleton_self _, by rw [lv_bar]; decide⟩
  · exact absurd h (Nat.lt_irrefl 0)

omit [FloatOps F] in
/-- The staging semaphores are no part of the protocol. -/
theorem stage_level : ∀ (w : Fin cfg0.W) (s : Fin (cfg0.win w).nbuf), (kind (.dma ((cfg0.win w).sem s)) = .other) := by decide +kernel

/-- The region changes no buffer but the output. -/
theorem W₂_ne (c : Dev nD) (b : Ref sig .tc) (h : Proc.devRef (τ := τ) .tc b ≠ Proc.devRef .tc main_v3) :
    W₂ m c (Proc.devRef .tc b) = W₁ m c (Proc.devRef .tc b) := Function.update_of_ne h _ _
/-- The region leaves the device's result in the output. -/
theorem W₂_out (c : Dev nD) : W₂ m c (Proc.devRef .tc main_v3) = outF (A m) c := Function.update_self _ _ _

/-- Every window's array ends as the final buffers say. -/
theorem arr_last (c : Dev nD) : ∀ w : Fin cfg0.W, (dat m c).arrAt w cfg0.N = W₂ m c (Proc.devRef .tc (Pipeline.arrRef spec0 w))
  | 0 => ((dat m c).arrAt_in 0 rfl _).trans (W₂_ne m c main_arg0 (by decide)).symm
  | 1 => ((dat m c).arrAt_in 1 rfl _).trans (W₂_ne m c main_arg1 (by decide)).symm
  | 2 => ((dat m c).arrAt_in 2 rfl _).trans (W₂_ne m c main_v1 (by decide)).symm
  | 3 => ((dat m c).arrAt_in 3 rfl _).trans (W₂_ne m c main_v2 (by decide)).symm
  | 4 => ((dat m c).arrAt_in 4 rfl _).trans (W₂_ne m c main_arg4 (by decide)).symm
  | 5 => (arrAt5 m c).trans (W₂_out m c).symm

set_option backward.isDefEq.respectTransparency.types false in
/-- The region's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ rest (Finset.empty_subset _) launch0.toP rfl (fun c => (body_obligation m c).loose)
    (fun _ => 0) (fun c => owed c 0 0) (fun c => (owed_first m c).trans (zero_add _).symm) (owed_last m) (fun _ => rfl) (fun c w => by fin_cases w <;> rfl)
    (W₁ m) (W₂ m) (W₂_rest m)
    (Tk m) (fun c => semVal (barCell c) 0) (Xk m) (fun c => semVal (barCell c) 0) (enter m) (hin m) (hout m)
    (fun c => by iintro H; imodintro; iexact H)
    (fun _ => 0)
    ⟨fun c w s => by rw [L_tc]; exact Finset.mem_singleton_self _,
      fun c w s => by dsimp only [lv]; rw [show kind _ = _ from stage_level w s],
      fun c t g i h => cutD m c t g i h⟩
    (fun _ => iprop(emp))
    (fun _ _ => rfl) (fun c w => arr_last m c w)

/-! ## @main -/

/-- What a device carries through the host operations. -/
abbrev carry (c : Dev nD) : sProp 𝕄 := iprop(Tk m c ∗ (∃ r, prngReg c r) ∗ ∃ W, owes (c : Thread nD τ) (owed c 0 0) W)

def seg0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op hop => Pipeline.sub_ucRefs op (List.forall_iff_forall_mem.mp hostOps0_sub op hop))
    (fun op hop => List.forall_iff_forall_mem.mp hostOps0_fresh op hop) (W₀ m) (carry m)

def segs : List (Pipeline.Seg (pcfgs (F := F)) adm (pdats m) () defs₀ 𝒱₀ L lv) := [.host (seg0 m), .region (reg m)]

/-- The program is the host operations followed by the region. -/
theorem main_eq (c : Dev nD) : main (F := F) c = Pipeline.Seg.run (segs m) :=
  main_segs adm (pdats m) () 𝒱₀ L lv (seg0 m) (reg m) rfl c

/-- What the host operations leave is what the region needs. -/
theorem reg_pre (c : Dev nD) : iprop(StableHlo.held (c : Thread nD τ) (Pipeline.ucRefs τ sig) (W₁ m c) ∗ carry m c) ⊢ (reg m).pre c := by
  show _ ⊢ iprop(StableHlo.held (c.tc : Thread nD τ) (Pipeline.arrRefs (τ := τ) spec0) (W₁ m c) ∗ (∃ r, prngReg c r)
    ∗ (StableHlo.held (c.tc : Thread nD τ) rest (W₁ m c) ∗ emp) ∗ Tk m c ∗ ∃ Wd, owes (c : Thread nD τ) (0 + owed c 0 0) Wd)
  rw [StableHlo.held_sub_split (c : Thread nD τ) arr_sub, zero_add]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What a device holds at the end. -/
abbrev Tₙ (c : Dev nD) : sProp 𝕄 := iprop(StableHlo.held (c : Thread nD τ) (Pipeline.ucRefs τ sig) (W₂ m c) ∗ semVal (barCell c) 0)

/-- What the region leaves is what a device holds at the end, with nothing owed. -/
theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) spec0) (W₂ m c) ∗ (∃ r, prngReg c r)
    ∗ (StableHlo.held (c.tc : Thread nD τ) rest (W₂ m c) ∗ emp) ∗ semVal (barCell c) 0 ∗ ∃ Wd, owes (c : Thread nD τ) (0 : CellTallies nD τ sig Unit) Wd) ⊢ _
  unfold Tₙ
  rw [StableHlo.held_sub_split (c : Thread nD τ) arr_sub]
  iintro ⟨Ha, -, ⟨Hr, -⟩, Hb, HO⟩
  isplitr [HO]; swap; · iexact HO
  isplitr [Hb]; swap; · iexact Hb
  isplitl [Ha] <;> iassumption

/-! ## The semaphores at launch -/

omit [FloatOps F] in
/-- The transfers' semaphores are different. -/
theorem osem_inj : Function.Injective osem := by decide +kernel
omit [FloatOps F] in
/-- None of the transfers' semaphores is the meeting's. -/
theorem osem_ne_bar : ∀ k, osem k ≠ .reg barS := by decide +kernel

def barEmb : Dev nD ↪ GSem nD τ sig := ⟨fun c => barCell c, fun _ _ h => congrArg (fun g : GSem nD τ sig => g.1.1) h⟩
def trEmb : Dev nD × (Fin 2 × Fin 16) ↪ GSem nD τ sig :=
  ⟨fun ck => ((ck.1 : Thread nD τ), osem ck.2), fun _ _ h =>
    Prod.ext (congrArg (fun g : GSem nD τ sig => g.1.1) h) (osem_inj (congrArg Prod.snd h))⟩
/-- The token of a cell's raise of a given name. -/
def tokEmb (b : Bool) : GSem nD τ sig ↪ GSem nD τ sig × ℕ × Bool := ⟨fun g => (g, 0, b), fun _ _ h => congrArg Prod.fst h⟩

abbrev barCells : Finset (GSem nD τ sig) := Finset.univ.map barEmb
abbrev trCells : Finset (GSem nD τ sig) := Finset.univ.map trEmb
abbrev toks : Finset (GSem nD τ sig × ℕ × Bool) := (barCells.map (tokEmb false) ∪ trCells.map (tokEmb false)) ∪ barCells.map (tokEmb true)

omit [FloatOps F] in
/-- Meeting and transfer semaphores are different. -/
theorem disjoint_cells : Disjoint (barCells : Finset (GSem nD τ sig)) trCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
omit [FloatOps F] in
/-- The tokens of the meeting's second raise are none of the others. -/
theorem disjoint_toks : Disjoint (barCells.map (tokEmb false) ∪ trCells.map (tokEmb false)) (barCells.map (tokEmb true)) := by
  rw [← Finset.map_union, Finset.disjoint_left]
  rintro g h₁ h₂
  obtain ⟨c, -, rfl⟩ := Finset.mem_map.mp h₁
  obtain ⟨d, -, h⟩ := Finset.mem_map.mp h₂
  exact Bool.noConfusion (congrArg (fun x : GSem nD τ sig × ℕ × Bool => x.2.2) h)

omit [FloatOps F] in
/-- A product over the meeting cells is one over the devices. -/
theorem over_bar (Φ : GSem nD τ sig → sProp (MT nD τ sig Unit (Elt F) ℕ UU ℕ)) : bigSep barCells Φ = bigSep Finset.univ fun c : Dev nD => Φ (barCell c) :=
  bigSep_map (s := Finset.univ) barEmb (Φ := Φ)

omit [FloatOps F] in
/-- A family over the transfers' cells is one over the departures and one over the arrivals. -/
theorem over_tr (Φ : GSem nD τ sig → sProp (MT nD τ sig Unit (Elt F) ℕ UU ℕ)) : bigSep trCells Φ
    = iprop((bigSep Finset.univ fun c : Dev nD => bigSep Finset.univ fun i : Fin 16 => Φ (sndCell c i))
      ∗ bigSep Finset.univ fun c : Dev nD => bigSep Finset.univ fun i : Fin 16 => Φ (rcvCell c i)) := by
  rw [bigSep_map (s := Finset.univ) trEmb (Φ := Φ), bigSep_univ_prod, ← bigSep_sep']
  refine bigSep_congr fun c _ => ?_
  rw [bigSep_univ_prod]
  exact BI.bigSep_fin_two (fun a : Fin 2 => bigSep Finset.univ fun i : Fin 16 => Φ (trEmb (c, (a, i))))

omit [FloatOps F] in
/-- All tokens: two for each device's meeting, and one for each transfer's departure and arrival. -/
theorem over_toks : bigSep toks (fun x => (dutyTok ER x.1 x.2.1 x.2.2 : sProp 𝕄))
    = iprop(((bigSep Finset.univ fun c : Dev nD => dutyTok ER (barCell c) 0 false)
        ∗ (bigSep Finset.univ fun c : Dev nD => bigSep Finset.univ fun i : Fin 16 => dutyTok ER (sndCell c i) 0 false)
        ∗ bigSep Finset.univ fun c : Dev nD => bigSep Finset.univ fun i : Fin 16 => dutyTok ER (rcvCell c i) 0 false)
      ∗ bigSep Finset.univ fun c : Dev nD => dutyTok ER (barCell c) 0 true) := by
  rw [bigSep_union disjoint_toks, bigSep_union ((Finset.disjoint_map _).mpr disjoint_cells), bigSep_map (tokEmb false), bigSep_map (tokEmb false),
    bigSep_map (tokEmb true), over_bar, over_bar, over_tr]
  rfl

def e1 : Dev nD ≃ Dev nD := ⟨p1, p1, p1_p1, p1_p1⟩
def e2 : Dev nD ≃ Dev nD := ⟨p2, p2, p2_p2, p2_p2⟩
def ePeer : Dev nD × Fin 16 ≃ Dev nD × Fin 16 :=
  ⟨fun x => (peer x.2 x.1, x.2), fun x => (peer x.2 x.1, x.2), fun x => by dsimp only; rw [peer_peer], fun x => by dsimp only; rw [peer_peer]⟩

omit [FloatOps F] in
/-- The arrivals' tokens, each handed to the device that starts the transfer. -/
theorem around (Φ : Dev nD → Fin 16 → sProp (MT nD τ sig Unit (Elt F) ℕ UU ℕ)) :
    (bigSep Finset.univ fun c : Dev nD => bigSep Finset.univ fun i : Fin 16 => Φ c i)
      = bigSep Finset.univ fun c : Dev nD => bigSep Finset.univ fun i : Fin 16 => Φ (peer i c) i := by
  rw [← bigSep_univ_prod (fun x : Dev nD × Fin 16 => Φ x.1 x.2), bigSep_univ_equiv ePeer, bigSep_univ_prod]
  rfl

/-! ### The launch credit -/

omit [FloatOps F] in
/-- An arrival semaphore is not a meeting semaphore. -/
theorem rcv_ne_bar (c d : Dev nD) (i : Fin 16) : rcvCell c i ≠ barCell d := fun h => by
  have := congrArg Prod.snd h; simp at this

omit [FloatOps F] in
/-- At launch a device's meeting is owed one raise by each neighbour. -/
theorem owed_at_bar (d c : Dev nD) : owed d 0 0 (barCell c) () = (if d = p2 c then 1 else 0) + if d = p1 c then 1 else 0 := by
  unfold owed
  rw [if_pos (by decide), if_pos rfl, Pi.add_apply, Finsupp.add_apply, Pi.add_apply, Finsupp.add_apply, tallyAt_apply, tallyAt_apply]
  have h0 : owe d 0 (barCell c) () = 0 := by
    by_contra h
    obtain ⟨i, -, e⟩ := owe_pos (Nat.pos_of_ne_zero h)
    exact rcv_ne_bar _ _ _ e.symm
  have hb (p : Dev nD → Dev nD) (hp : ∀ c, p (p c) = c) : (if barCell c = barCell (p d) ∧ () = () then 1 else 0) = if d = p c then 1 else 0 := by
    by_cases h : d = p c
    · subst h; rw [hp, if_pos ⟨rfl, rfl⟩, if_pos rfl]
    · rw [if_neg (fun h' => h (((hp d).symm.trans (congrArg p (congrArg (fun g : GSem nD τ sig => g.1.1) h'.1).symm)))), if_neg h]
  rw [h0, hb p2 p2_p2, hb p1 p1_p1, zero_add]

omit [FloatOps F] in
/-- At launch an arrival is owed by the transfer's partner alone. -/
theorem owed_at_rcv (d c : Dev nD) (i : Fin 16) : owed d 0 0 (rcvCell c i) () = if d = peer i c then N else 0 := by
  unfold owed
  rw [if_pos (by decide), if_pos rfl, Pi.add_apply, Finsupp.add_apply, Pi.add_apply, Finsupp.add_apply,
    tallyAt_ne_cell (rcv_ne_bar _ _ _), tallyAt_ne_cell (rcv_ne_bar _ _ _), Finsupp.zero_apply, add_zero, add_zero]
  unfold owe
  rw [Finset.sum_apply, Finsupp.finsetSum_apply, Finset.sum_eq_single i]
  · rw [if_pos (Nat.zero_le _), tallyAt_apply]
    by_cases h : d = peer i c
    · subst h; rw [peer_peer, if_pos ⟨rfl, rfl⟩, if_pos rfl]
    · rw [if_neg (fun h' => h (((peer_peer i d).symm.trans (congrArg (peer i) (congrArg (fun g : GSem nD τ sig => g.1.1) h'.1).symm)))), if_neg h]
  · intro k _ hk
    rw [if_pos (Nat.zero_le _), tallyAt_ne_cell (fun h => ?_), Finsupp.zero_apply]
    have e := congrArg (fun g : GSem nD τ sig => kind g.2) h
    simp only [kind_rcv, Kind.rcv.injEq] at e
    exact hk e.symm
  · exact fun h => absurd (Finset.mem_univ _) h

omit [FloatOps F] in
/-- At launch a device's meeting has credit two. -/
theorem launch_bar (c : Dev nD) :
    tallyOn (barCell c) (launchCredit (Pipeline.owing fun d => owed d 0 0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_at_bar d c, Finset.sum_add_distrib,
    Finset.sum_ite_eq' Finset.univ (p2 c) fun _ => 1, Finset.sum_ite_eq' Finset.univ (p1 c) fun _ => 1, if_pos (Finset.mem_univ _), if_pos (Finset.mem_univ _)]

omit [FloatOps F] in
/-- At launch each arrival has credit for its bytes. -/
theorem launch_rcv (c : Dev nD) (i : Fin 16) :
    tallyOn (rcvCell c i) (launchCredit (Pipeline.owing fun d => owed d 0 0) 0 (rcvCell c i)) = (tallyAt (rcvCell c i) () N : CellTallies nD τ sig Unit) := by
  unfold tallyAt; refine congrArg _ (Finsupp.ext fun u => ?_); cases u
  rw [Pipeline.launchCredit_owing, Finsupp.single_eq_same, Finset.sum_congr rfl fun d _ => owed_at_rcv d c i,
    Finset.sum_ite_eq' Finset.univ (peer i c) fun _ => N, if_pos (Finset.mem_univ _)]

def rSEmb : Fin 16 ↪ SemLoc sig := ⟨fun i => .dma (rS i), fun i k h => by
  have e := congrArg kind h; simp only [kind_rcv, Kind.rcv.injEq] at e; exact e⟩

omit [FloatOps F] in
/-- A device's launch credit: two raises of its meeting semaphore and the bytes of each arrival. -/
theorem creds (c : Dev nD) : (Pipeline.launchCred (fun d => owed d 0 0) c : sProp 𝕄)
    ⊢ iprop(cred (tallyAt (barCell c) () 2) ∗ bigSep Finset.univ fun i : Fin 16 => cred (tallyAt (rcvCell c i) () N)) := by
  unfold Pipeline.launchCred
  rw [bigSep_univ_at _ (SemLoc.reg barS), launch_bar]
  refine sep_mono_right ?_
  have hs : Finset.univ.map rSEmb ⊆ (Finset.univ.erase (SemLoc.reg barS) : Finset (SemLoc sig)) := fun x hx => by
    obtain ⟨i, -, rfl⟩ := Finset.mem_map.mp hx
    exact Finset.mem_erase.mpr ⟨fun h => by simp [rSEmb] at h, Finset.mem_univ _⟩
  refine (BI.bigSep_subset hs).trans ?_
  rw [bigSep_map]
  exact bigSep_mono fun i _ => by rw [← launch_rcv c i]; exact BI.Entails.refl _

/-! ### The deal -/

/-- The launch element: the pipeline library's at its staging cells, and the protocol's. -/
def u₀ : UU :=
  (initOf (Pipeline.cells (Pipeline.pin (pcfgs (F := F)) adm) cellOf_inj) (Pipeline.launchToks (Pipeline.pin (pcfgs (F := F)) adm) cellOf_inj),
    launchOf barCells trCells toks)

/-- The protocol's part of the launch element, kept on device 0 until all devices are dealt their shares. -/
def G (c : Dev nD) : sProp 𝕄 := if c = 0 then BI.own (ER (launchOf barCells trCells toks)) else iprop(emp)

omit [FloatOps F] in
/-- The devices' parts of the protocol's launch element make up the element. -/
theorem G_all : bigSep Finset.univ (G (F := F)) = BI.own (ER (launchOf barCells trCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What the protocol deals device `c` and nobody else: its place at its meeting, the tokens of the raises it owes, the
    right to open each transfer's semaphores. -/
def lin (c : Dev nD) : sProp 𝕄 :=
  iprop(atPos ER (barCell c) 0 ∅ 0 ∗ dutyTok ER (barCell (p1 c)) 0 false ∗ dutyTok ER (barCell (p2 c)) 0 true
    ∗ (bigSep Finset.univ fun i : Fin 16 => openTok ER (sndCell c i)) ∗ (bigSep Finset.univ fun i : Fin 16 => dutyTok ER (sndCell c i) 0 false)
    ∗ (bigSep Finset.univ fun i : Fin 16 => dutyTok ER (rcvCell (peer i c) i) 0 false) ∗ bigSep Finset.univ fun i : Fin 16 => openTok ER (rcvCell c i))

/-- What a device holds at launch besides the protocol's share. -/
def bundle (c : Dev nD) : sProp 𝕄 :=
  iprop(StableHlo.held (c : Thread nD τ) (Pipeline.ucRefs τ sig) (W₀ m c)
    ∗ (cred (tallyAt (barCell c) () 2) ∗ bigSep Finset.univ fun i : Fin 16 => cred (tallyAt (rcvCell c i) () N))
    ∗ owes (c : Thread nD τ) (owed c 0 0) ∅ ∗ ∃ r, prngReg c r)

abbrev T₀ (c : Dev nD) : sProp 𝕄 := iprop(StableHlo.held (c : Thread nD τ) (Pipeline.ucRefs τ sig) (W₀ m c) ∗ carry m c)

/-- The dealt shares are what a device starts from. -/
theorem T₀_intro (κ : GSem nD τ sig → ℕ) (c : Dev nD) : iprop(info (A m) κ ∗ (lin c ∗ bundle m c)) ⊢ T₀ m c := by
  unfold T₀ carry Tk Tk0 lin bundle
  rw [mt_0]
  iintro ⟨#HI, ⟨Hat, Hb1, Hb2, Hos, Hts, Htr, Hor⟩, Hh, ⟨Hcb, Hcr⟩, HO, Hp⟩
  isplitl [Hh]; · iexact Hh
  isplitr [HO Hp]; swap
  · isplitl [Hp]; · iexact Hp
    iexists ∅; iexact HO
  iexists κ
  isplitr; · iexact HI
  isplitl [Hat Hb1 Hb2 Hcb]
  · isplitl [Hat Hcb]; · isplitl [Hcb] <;> iassumption
    isplitl [Hb1] <;> iassumption
  isplitl [Hos Hts Htr]
  · iapply pair; isplitl [Hos]; · iexact Hos
    iapply pair; isplitl [Hts] <;> iassumption
  iapply pair; isplitl [Hor] <;> iassumption

omit [FloatOps F] in
/-- The one semaphore outside the region is the meeting's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The invariants of all cells, in the shape the devices consult them. -/
theorem info_intro (κ : GSem nD τ sig → ℕ) :
    iprop((bigSep (barCells ∪ trCells) fun g => cellInv ER (rd0 (A m)) (κ g) g) ∗ (bigSep barCells fun g => reached ER g 0) ∗ levAts L lv)
      ⊢ (info (A m) κ : sProp 𝕄) := by
  unfold info
  rw [show (bigSep (barCells ∪ trCells) fun g => (cellInv ER (rd0 (A m)) (κ g) g : sProp 𝕄))
      = iprop((bigSep barCells fun g => cellInv ER (rd0 (A m)) (κ g) g) ∗ bigSep trCells fun g => cellInv ER (rd0 (A m)) (κ g) g)
      from bigSep_union disjoint_cells, over_bar, over_bar, over_tr, bigSep_univ_prod, bigSep_univ_prod]
  iintro ⟨⟨H1, H2, H3⟩, H4, H5⟩
  isplitl [H1]; · iexact H1
  isplitl [H2]; · iexact H2
  isplitl [H3]; · iexact H3
  isplitl [H4] <;> iassumption

omit [FloatOps F] in
/-- The protocol's launch resources dealt over the devices. -/
theorem deal :
    iprop((bigSep barCells fun g => atPos ER g 0 ∅ 0) ∗ (bigSep trCells fun g => openTok ER g)
        ∗ bigSep toks fun x => dutyTok ER x.1 x.2.1 x.2.2) ⊢ (bigSep Finset.univ (lin (F := F)) : sProp 𝕄) := by
  unfold lin
  rw [over_bar, over_tr, over_toks, around (fun c i => dutyTok ER (rcvCell c i) 0 false),
    bigSep_univ_equiv e1 (fun c : Dev nD => dutyTok ER (barCell c) 0 false), bigSep_univ_equiv e2 (fun c : Dev nD => dutyTok ER (barCell c) 0 true)]
  iintro ⟨Hat, ⟨Hos, Hor⟩, ⟨Hb1, Hts, Htr⟩, Hb2⟩
  iapply pair; isplitl [Hat]; · iexact Hat
  iapply pair; isplitl [Hb1]; · iexact Hb1
  iapply pair; isplitl [Hb2]; · iexact Hb2
  iapply pair; isplitl [Hos]; · iexact Hos
  iapply pair; isplitl [Hts]; · iexact Hts
  iapply pair; isplitl [Htr] <;> iassumption

/-- The launch: the meeting semaphores' counters and the launch element fund every cell, and everything is dealt. -/
theorem init :
    iprop((bigSep Finset.univ fun c : Dev nD => iprop(unscopedBufs c (fun b => m ((c : Thread nD τ).loc b)) ∗ unscopedSems0 c
          ∗ owes (c : Thread nD τ) (owed c 0 0) ∅ ∗ Pipeline.launchCred (fun d => owed d 0 0) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed c 0 0) ∅ ∗ Pipeline.launchCred (fun d => owed d 0 0) c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (W₀ m c)
      from Pipeline.unscopedBufs_held c (W₀ m c), unscopedSems0_eq]
    unfold bundle
    iintro ⟨Hh, Hus, HO, Hcr, Hp, HG⟩
    isplitl [Hh HO Hcr Hp]
    · isplitl [Hh]; · iexact Hh
      isplitl [Hcr]; · iapply (creds (F := F) c); iexact Hcr
      isplitl [HO]; · iexact HO
      iexists (ρ c); iexact Hp
    isplitl [Hus] <;> iassumption
  iintro ⟨H, #HL⟩
  ihave H' := (show (bigSep Finset.univ fun c : Dev nD => iprop(unscopedBufs c (fun b => m ((c : Thread nD τ).loc b)) ∗ unscopedSems0 c
          ∗ owes (c : Thread nD τ) (owed c 0 0) ∅ ∗ Pipeline.launchCred (fun d => owed d 0 0) c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := unpair $$ H'; icases H2 with ⟨HB, H3⟩
  ihave H4 := unpair $$ H3; icases H4 with ⟨Hv, HG⟩
  imod (Rounds.fund_launch ER (rd0 (A m)) disjoint_cells (fun g _ h => h) toks) $$ [Hv HG] with ⟨%κ, -, Hinv, Hr, Hat, Hopen, Htok⟩
  · rw [over_bar, ← G_all]
    isplitl [Hv] <;> iassumption
  imodintro
  iapply (bigSep_with_persistent (R := info (A m) κ) (Φ := fun c => iprop(lin c ∗ bundle m c)) fun c _ => T₀_intro m κ c)
  isplitl [Hinv Hr]
  · iapply (info_intro m κ)
    isplitl [Hinv]; · iexact Hinv
    isplitl [Hr]; · iexact Hr
    iexact HL
  iapply pair
  isplitr [HB]; swap; · iexact HB
  iapply (deal (F := F))
  isplitl [Hat]; · iexact Hat
  isplitl [Hopen] <;> iassumption

/-! ## The run -/

/-- One buffer of a device, whole at given contents. -/
abbrev pt (c : Dev nD) (b : Ref sig .tc) (f : b.ty.Contents (Elt F)) : sProp 𝕄 := (Memref.whole b).view.loc (c : Thread nD τ) ↦{fullShare} f

omit [FloatOps F] in
/-- A device's buffers, one by one. -/
theorem held_all (c : Dev nD) (W : Valuation τ sig (Elt F)) : (StableHlo.held (c : Thread nD τ) (Pipeline.ucRefs τ sig) W : sProp 𝕄)
    = iprop(pt c main_arg0 (W (Proc.devRef .tc main_arg0)) ∗ pt c main_arg1 (W (Proc.devRef .tc main_arg1)) ∗ pt c main_arg2 (W (Proc.devRef .tc main_arg2))
      ∗ pt c main_arg3 (W (Proc.devRef .tc main_arg3)) ∗ pt c main_arg4 (W (Proc.devRef .tc main_arg4)) ∗ pt c main_v1 (W (Proc.devRef .tc main_v1))
      ∗ pt c main_v2 (W (Proc.devRef .tc main_v2)) ∗ pt c main_v3 (W (Proc.devRef .tc main_v3))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

omit [FloatOps F] in
/-- Only the meeting's semaphore lies outside the region. -/
theorem unscoped_eq : ∀ sm : SemLoc sig, sm.isScoped .tc = false → sm = .reg barS := by decide

set_option backward.isDefEq.respectTransparency.types false in
/-- The run of @main on the four devices, at any float values and from any memory with zero counters: it ends, every
    device's arguments are unchanged, its result is the last sum of the exchange, and every counter is back at zero. -/
theorem run_main : θ_run defs (onTc (τ := τ) (main (F := F))) (s₀ m ρ)
    (fun r => (∀ c : Dev nD,
        r.2.mem ((c : Thread nD τ).loc main_v3) = outF (A m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun d => owed d 0 0) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => (s.mem ((Memref.whole main_v3).view.loc (c : Thread nD τ)) = W₂ m c (Proc.devRef .tc main_v3)
        ∧ s.mem ((Memref.whole main_arg0).view.loc (c : Thread nD τ)) = W₂ m c (Proc.devRef .tc main_arg0)
        ∧ s.mem ((Memref.whole main_arg1).view.loc (c : Thread nD τ)) = W₂ m c (Proc.devRef .tc main_arg1)
        ∧ s.mem ((Memref.whole main_arg2).view.loc (c : Thread nD τ)) = W₂ m c (Proc.devRef .tc main_arg2)
        ∧ s.mem ((Memref.whole main_arg3).view.loc (c : Thread nD τ)) = W₂ m c (Proc.devRef .tc main_arg3)
        ∧ s.mem ((Memref.whole main_arg4).view.loc (c : Thread nD τ)) = W₂ m c (Proc.devRef .tc main_arg4))
      ∧ s.sem (barCell c) = 0)
    (hfin := fun c s' => by
      dsimp only [Tₙ]; rw [held_all]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h5, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨h5, h0, h1, h2, h3, h4⟩, -⟩ := h c
        exact ⟨h5.trans (W₂_out m c),
          h0.trans ((W₂_ne m c main_arg0 (by decide)).trans (V_main_arg0 m c)), h1.trans ((W₂_ne m c main_arg1 (by decide)).trans (V_main_arg1 m c)),
          h2.trans ((W₂_ne m c main_arg2 (by decide)).trans (V_main_arg2 m c)), h3.trans ((W₂_ne m c main_arg3 (by decide)).trans (V_main_arg3 m c)),
          h4.trans ((W₂_ne m c main_arg4 (by decide)).trans (V_main_arg4 m c))⟩,
      sem_eq_zero hs fun c sm hsm => by
        obtain rfl := unscoped_eq sm hsm
        exact (h c).2⟩)

end Cert.KernelIdeal.Tp

end
-- ==== Proof.Heads.lean ====
/-
  One device's share of the projected attention, over any float values: the text of one head, and the shares of the two
  batches as the product of four heads' joined columns with the device's rows of the output weights.
-/
module

public import proofs.«01_k».proof.Proof.Values

@[expose] public section

noncomputable section

namespace Cert.KernelIdeal.Tp

open Idealize.ShloMosaic Idealize.ShloMosaic.TcCoe Idealize.SL.Sem Idealize.ShloMosaic.ValueIdx
open Cert.KernelIdeal.Gen

variable {F : FTy → Type} [FloatOps F]

/-- The masked exponentials of one head's scores. -/
def wts (mk : FVec F S128x128 .f32) (q k : FVec F S128x64 .bf16) : FVec F S128x128 .f32 :=
  mulf (exp (matmul dot_S128x64_S128x64_S128x128_1_1_0_0_n_n none q k (constant S128x128 .f32 0x00000000#32))) mk

/-- The reciprocals of the row sums of `w`, as a column. -/
def recip (w : FVec F S128x128 .f32) : FVec F S128x1 .f32 :=
  divf (broadcast S128x1 (Scalar.ofBits .f32 0x3F800000#32))
    (shapeCast S128x1 (multiReduction .add [1] S128 w 0x00000000#32 reduces_S128x128_S128 (.inl rfl) rfl) shapeCasts_S128_S128x1)

/-- One head: its weighted sum of the values, scaled by the reciprocals of the weights' row sums. -/
def head (mk : FVec F S128x128 .f32) (q k v : FVec F S128x64 .bf16) : FVec F S128x64 .bf16 :=
  truncf .bf16
    (mulf (matmul dot_S128x128_S128x64_S128x64_1_0_0_1_n_n none (truncf .bf16 (wts mk q k) bitsLt_bf16_f32) v (constant S128x64 .f32 0x00000000#32))
      (broadcastTo S128x64 (recip (wts mk q k)) broadcasts_S128x1_S128x64)) bitsLt_bf16_f32

/-- The head whose columns start at column `o` of the queries, keys and values. -/
def headAt (o : Nat) (h : S128x256.Slices ![0, o] S128x64) (mk : FVec F S128x128 .f32) (q k v : FVec F S128x256 .bf16) : FVec F S128x64 .bf16 :=
  head mk (extractStridedSlice S128x64 ![0, o] q h) (extractStridedSlice S128x64 ![0, o] k h) (extractStridedSlice S128x64 ![0, o] v h)

/-- The four heads, in order. -/
abbrev heads4 (mk : FVec F S128x128 .f32) (q k v : FVec F S128x256 .bf16) : List ((s : Shape) × (s.Idx → F .bf16)) :=
  [⟨S128x64, headAt 0 slices_S128x256_o0_0_S128x64 mk q k v⟩, ⟨S128x64, headAt 64 slices_S128x256_o0_64_S128x64 mk q k v⟩,
    ⟨S128x64, headAt 128 slices_S128x256_o0_128_S128x64 mk q k v⟩, ⟨S128x64, headAt 192 slices_S128x256_o0_192_S128x64 mk q k v⟩]

/-- The four heads side by side. -/
def joined (mk : FVec F S128x128 .f32) (q k v : FVec F S128x256 .bf16) : FVec F S128x256 .bf16 :=
  concatenate S128x256 1 (heads4 mk q k v) concatenates_S128x64_S128x64_S128x64_S128x64_S128x256_d1

/-- The scaled queries of one batch. -/
def qry (wq : FVec F S512x256 .bf16) (x : Vec F S1x128x512 .bf16) : FVec F S128x256 .bf16 :=
  truncf .bf16
    (mulf (matmul dot_S128x512_S512x256_S128x256_1_0_0_1_n_n none (shapeCast S128x512 x shapeCasts_S1x128x512_S128x512) wq (constant S128x256 .f32 0x00000000#32))
      (broadcast S128x256 (Scalar.ofBits .f32 0x3E000000#32))) bitsLt_bf16_f32

/-- A batch's keys or values without the leading unit axis. -/
def flat (k : Vec F S1x128x256 .bf16) : FVec F S128x256 .bf16 := shapeCast S128x256 k shapeCasts_S1x128x256_S128x256

/-- The joined heads times the device's rows of the output weights. -/
def share (wo : FVec F S256x512 .bf16) (y : FVec F S128x256 .bf16) : FVec F S128x512 .f32 :=
  matmul dot_S128x256_S256x512_S128x512_1_0_0_1_n_n none y wo (constant S128x512 .f32 0x00000000#32)

section
variable (c : Dev nD) (I : Ins F)

/-- Batch 0's joined heads. -/
def Y0 : FVec F S128x256 .bf16 := joined mk (qry (wqV I) (x0 I)) (flat (k0r c I)) (flat (v0r c I))
/-- Batch 1's. -/
def Y1 : FVec F S128x256 .bf16 := joined mk (qry (wqV I) (x1 I)) (flat (k1r c I)) (flat (v1r c I))

/-- The share of batch 0 is the joined heads times the device's rows of the output weights. -/
theorem P0_eq : P0 c I = share (woV I) (Y0 c I) := rfl
/-- The share of batch 1, likewise. -/
theorem P1_eq : P1 c I = share (woV I) (Y1 c I) := rfl
/-- What is staged of batch 0 is its share, narrowed. -/
theorem S0_eq : S0 c I = shapeCast S1x128x512 (truncf .bf16 (P0 c I) bitsLt_bf16_f32) shapeCasts_S128x512_S1x128x512 := rfl
/-- What is stored for sending of batch 1 is its share, narrowed and given a leading axis of size one. -/
theorem S1_eq : S1 c I = shapeCast S1x128x512 (truncf .bf16 (P1 c I) bitsLt_bf16_f32) shapeCasts_S128x512_S1x128x512 := rfl

end

end Cert.KernelIdeal.Tp

end
-- ==== Proof.HeadsIdeal.lean ====
/-
  The same texts read at an index over the extended reals.
-/
module

public import proofs.«01_k».proof.Proof.Heads
public import Idealize.ShloMosaic.Lib.ValueIdx
public import Idealize.ShloMosaic.Lib.ValueLayout
public import Idealize.ShloMosaic.Lib.MatmulPlain
public import Idealize.ShloMosaic.Lib.Pipeline.Value
public import Idealize.ShloMosaic.PureOps.Ideal.Laws

@[expose] public section

noncomputable section

namespace Cert.KernelIdeal.Tp

open Idealize.ShloMosaic Idealize.ShloMosaic.TcCoe Idealize.SL.Sem Idealize.ShloMosaic.ValueIdx
open Cert.KernelIdeal.Gen
open scoped BigOperators

/-- The word of the numerator of a row's factor denotes 1. -/
theorem one_word : Ideal.ofBits .f32 0x3F800000#32 = 1 := by
  simp [Ideal.ofBits, Ideal.ieee, -EReal.coe_mul]; norm_num
/-- The word the kernel scales the queries by denotes 1/8. -/
theorem eighth_word : Ideal.ofBits .f32 0x3E000000#32 = ((0.125 : ℝ) : EReal) := by
  simp [Ideal.ofBits, Ideal.ieee, -EReal.coe_mul]; norm_num

/-- A weight is the exponential of a query-key product, times the mask. -/
theorem wts_apply (mk : FVec Ideal S128x128 .f32) (q k : FVec Ideal S128x64 .bf16) (r j : Fin 128) :
    wts mk q k (ix2 r j) = Ideal.exp (∑ e : Fin 64, q (ix2 r e) * k (ix2 j e)) * mk (ix2 r j) := by
  have h := Ideal.matmul_transposedRhs_apply none q k (constant S128x128 .f32 0x00000000#32 : FVec Ideal S128x128 .f32) r j
  have h0 : (constant S128x128 .f32 0x00000000#32 : FVec Ideal S128x128 .f32) (ix2 r j) = 0 := Ideal.ofBits_zero_f32
  rw [h0, zero_add] at h
  exact congrArg (fun t => Ideal.exp t * mk (ix2 r j)) h

/-- The factor of a row is one over the sum of its weights. -/
theorem recip_apply (w : FVec Ideal S128x128 .f32) (r : Fin 128) :
    recip w (ix2 r 0) = Ideal.div 1 (∑ j : Fin 128, w (ix2 r j)) := by
  have e : shapeCast S128x1 (multiReduction .add [1] S128 w 0x00000000#32 reduces_S128x128_S128 (.inl rfl) rfl) shapeCasts_S128_S128x1 (ix2 r 0)
      = ∑ j : Fin 128, w (ix2 r j) := by
    rw [shapeCast_apply _ _ (ix2 r 0) (ix1 r) (by simp [Shape.rowMajor_val_one, Shape.rowMajor_val_two, ix1, ix2])]
    refine (Ideal.multiReduction_add_single w 0x00000000#32 reduces_S128x128_S128 (.inl rfl) rfl (ix1 r)).trans ?_
    refine Finset.sum_congr rfl fun j _ => congrArg w ?_
    funext a; match a with
      | ⟨0, _⟩ => rfl
      | ⟨1, _⟩ => rfl
  refine Eq.trans (congrArg (fun t => Ideal.div (Ideal.ofBits .f32 0x3F800000#32) t) e) ?_
  rw [one_word]

/-- A head's entry is the weighted sum of the values times the row's factor. -/
theorem head_apply (mk : FVec Ideal S128x128 .f32) (q k v : FVec Ideal S128x64 .bf16) (r : Fin 128) (d : Fin 64) :
    head mk q k v (ix2 r d) = (∑ j : Fin 128, wts mk q k (ix2 r j) * v (ix2 j d)) * Ideal.div 1 (∑ j : Fin 128, wts mk q k (ix2 r j)) := by
  have h := Ideal.matmul_plain_apply none (truncf .bf16 (wts mk q k) bitsLt_bf16_f32) v (constant S128x64 .f32 0x00000000#32 : FVec Ideal S128x64 .f32) r d
  have h0 : (constant S128x64 .f32 0x00000000#32 : FVec Ideal S128x64 .f32) (ix2 r d) = 0 := Ideal.ofBits_zero_f32
  rw [h0, zero_add] at h
  have hb : broadcastTo S128x64 (recip (wts mk q k)) broadcasts_S128x1_S128x64 (ix2 r d) = recip (wts mk q k) (ix2 r 0) := by
    refine broadcastTo_apply _ _ _ _ fun a => ?_
    match a with
      | ⟨0, _⟩ => rfl
      | ⟨1, _⟩ => rfl
  rw [recip_apply] at hb
  exact congrArg₂ (· * ·) h hb

/-- A slice of 64 columns starting at `o` reads the array at the shifted column. -/
theorem col_apply (o : Nat) (h : S128x256.Slices ![0, o] S128x64) (x : FVec Ideal S128x256 .bf16) (r : Fin 128) (d : Fin 64) (m : Fin 256)
    (hm : m.val = o + d.val) : extractStridedSlice S128x64 ![0, o] x h (ix2 r d) = x (ix2 r m) := by
  refine extractStridedSlice_apply _ _ _ _ _ fun a => ?_
  match a with
    | ⟨0, _⟩ => exact (Nat.zero_add _).symm
    | ⟨1, _⟩ => exact hm

/-- The column of the four joined heads that is column `e` of the head that column `m` lies in. -/
def mate (m : Fin 256) (e : Fin 64) : Fin 256 := ⟨64 * (m.val / 64) + e.val, by omega⟩

/-- One element of the joined heads. -/
def attn (mk : FVec Ideal S128x128 .f32) (q k v : FVec Ideal S128x256 .bf16) (r : Fin 128) (m : Fin 256) : EReal :=
  (∑ j : Fin 128, Ideal.exp (∑ e : Fin 64, q (ix2 r (mate m e)) * k (ix2 j (mate m e))) * mk (ix2 r j) * v (ix2 j m))
    * Ideal.div 1 (∑ j : Fin 128, Ideal.exp (∑ e : Fin 64, q (ix2 r (mate m e)) * k (ix2 j (mate m e))) * mk (ix2 r j))

/-- The head cut out at columns `o ..` has, at each entry, the value `attn` gives for that column. -/
theorem headAt_apply (o : Nat) (h : S128x256.Slices ![0, o] S128x64) (mk : FVec Ideal S128x128 .f32) (q k v : FVec Ideal S128x256 .bf16)
    (r : Fin 128) (d : Fin 64) (m : Fin 256) (ho : o = 64 * (m.val / 64)) (hm : m.val = o + d.val) :
    headAt o h mk q k v (ix2 r d) = attn mk q k v r m := by
  have hw : ∀ j : Fin 128, wts mk (extractStridedSlice S128x64 ![0, o] q h) (extractStridedSlice S128x64 ![0, o] k h) (ix2 r j)
      = Ideal.exp (∑ e : Fin 64, q (ix2 r (mate m e)) * k (ix2 j (mate m e))) * mk (ix2 r j) := fun j => by
    rw [wts_apply]
    refine congrArg (fun t => Ideal.exp t * mk (ix2 r j)) (Finset.sum_congr rfl fun e _ => ?_)
    have he : (mate m e).val = o + e.val := by rw [ho]; rfl
    rw [col_apply o h q r e _ he, col_apply o h k j e _ he]
  unfold headAt; rw [head_apply]; unfold attn
  refine congrArg₂ (· * ·) (Finset.sum_congr rfl fun j _ => ?_) (congrArg (Ideal.div 1) (Finset.sum_congr rfl fun j _ => hw j))
  rw [hw, col_apply o h v j d m hm]

/-- The four heads side by side have `attn` at every column. -/
theorem joined_apply (mk : FVec Ideal S128x128 .f32) (q k v : FVec Ideal S128x256 .bf16) (r : Fin 128) (m : Fin 256) :
    joined mk q k v (ix2 r m) = attn mk q k v r m := by
  have key : ∀ (n : Nat) (hn : n < (heads4 mk q k v).length) (o : Nat) (h : S128x256.Slices ![0, o] S128x64) (hd : m.val / 64 = n) (ho : o = 64 * n)
      (hx : (heads4 mk q k v)[n] = ⟨S128x64, headAt o h mk q k v⟩)
      (hp : ((((heads4 mk q k v).take n).map (·.1)).map fun s => if h : s.rank = S128x256.rank then s.size ((1 : Fin S128x256.rank).cast h.symm) else 0).sum = o),
      joined mk q k v (ix2 r m) = attn mk q k v r m := by
    intro n hn o h hd ho hx hp
    have hm : m.val = o + m.val % 64 := by omega
    rw [← headAt_apply o h mk q k v r ⟨m.val % 64, by omega⟩ m (by omega) hm]
    exact concatenate_apply_piece (1 : Fin S128x256.rank) (heads4 mk q k v) _ (ix2 r m) n hn S128x64 _ hx rfl o hp (ix2 r ⟨m.val % 64, by omega⟩)
      (fun b hb => match b, hb with
        | ⟨0, _⟩, _ => rfl
        | ⟨1, _⟩, hb => absurd rfl hb)
      hm.symm
  have hlt := m.isLt
  rcases (by omega : m.val / 64 = 0 ∨ m.val / 64 = 1 ∨ m.val / 64 = 2 ∨ m.val / 64 = 3) with h | h | h | h
  · exact key 0 (show 0 < 4 by decide) 0 slices_S128x256_o0_0_S128x64 h rfl rfl rfl
  · exact key 1 (show 1 < 4 by decide) 64 slices_S128x256_o0_64_S128x64 h rfl rfl rfl
  · exact key 2 (show 2 < 4 by decide) 128 slices_S128x256_o0_128_S128x64 h rfl rfl rfl
  · exact key 3 (show 3 < 4 by decide) 192 slices_S128x256_o0_192_S128x64 h rfl rfl rfl

/-- A share of the output is the matrix product with the device's rows of the output weights. -/
theorem share_apply (wo : FVec Ideal S256x512 .bf16) (y : FVec Ideal S128x256 .bf16) (r : Fin 128) (n : Fin 512) :
    share wo y (ix2 r n) = ∑ m : Fin 256, y (ix2 r m) * wo (ix2 m n) := by
  have h := Ideal.matmul_plain_apply none y wo (constant S128x512 .f32 0x00000000#32 : FVec Ideal S128x512 .f32) r n
  have h0 : (constant S128x512 .f32 0x00000000#32 : FVec Ideal S128x512 .f32) (ix2 r n) = 0 := Ideal.ofBits_zero_f32
  rw [h0, zero_add] at h
  exact h

/-- Dropping the leading axis of size one keeps every entry. -/
theorem flat_apply (k : Vec Ideal S1x128x256 .bf16) (r : Fin 128) (m : Fin 256) : flat k (ix2 r m) = k (ix3 0 r m) := by
  unfold flat
  exact shapeCast_1ab_ab_apply _ _ _ _

/-- A query is the input row times a column of the query weights, scaled by 1/8. -/
theorem qry_apply (wq : FVec Ideal S512x256 .bf16) (x : Vec Ideal S1x128x512 .bf16) (r : Fin 128) (m : Fin 256) :
    qry wq x (ix2 r m) = (∑ t : Fin 512, x (ix3 0 r t) * wq (ix2 t m)) * ((0.125 : ℝ) : EReal) := by
  have h := Ideal.matmul_plain_apply none (shapeCast S128x512 x shapeCasts_S1x128x512_S128x512 : FVec Ideal S128x512 .bf16) wq (constant S128x256 .f32 0x00000000#32 : FVec Ideal S128x256 .f32) r m
  have h0 : (constant S128x256 .f32 0x00000000#32 : FVec Ideal S128x256 .f32) (ix2 r m) = 0 := Ideal.ofBits_zero_f32
  rw [h0, zero_add] at h
  refine Eq.trans (congrArg (· * Ideal.ofBits .f32 0x3E000000#32) h) ?_
  rw [eighth_word]
  refine congrArg (· * _) (Finset.sum_congr rfl fun t _ => congrArg (· * _) ?_)
  exact shapeCast_1ab_ab_apply _ _ _ _

end Cert.KernelIdeal.Tp

end
-- ==== Proof.Exchange.lean ====
/-
  The two exchanges over the extended reals: after them every device holds, element by element, the sum of the four
  devices' shares of the projected output.
-/
module

public import proofs.«01_k».proof.Proof.HeadsIdeal

@[expose] public section

noncomputable section

namespace Cert.KernelIdeal.Tp

open Idealize.ShloMosaic Idealize.ShloMosaic.TcCoe Idealize.SL.Sem Idealize.ShloMosaic.ValueIdx
open Cert.KernelIdeal.Gen
open scoped BigOperators

/-- A device's share of batch `b`. -/
def Pb (b : Fin 2) (d : Dev nD) (I : Ins Ideal) : FVec Ideal S128x512 .f32 :=
  match b with
  | 0 => P0 d I
  | 1 => P1 d I

/-- The batch, the row and the column that element `(a, n)` of piece `p` has in the result. -/
abbrev bat (p : Fin 8) : Fin 2 := ⟨p.val / 4, by omega⟩
abbrev rowOf (p : Fin 8) (a : Fin 64) : Fin 128 := ⟨64 * (p.val / 2 % 2) + a.val, by omega⟩
abbrev colOf (p : Fin 8) (n : Fin 256) : Fin 512 := ⟨256 * (p.val % 2) + n.val, by omega⟩

/-- A piece of a share plus what arrived for it, at an index. -/
theorem sum_piece (P : FVec Ideal S128x512 .f32) (ro co : Nat) (h1 : S128x512.Slices ![ro, 0] S64x512) (h2 : S64x512.Slices ![0, co] S64x256)
    (w : Vec Ideal S1x64x256 .bf16) (a : Fin 64) (n : Fin 256) (i : Fin 128) (j : Fin 512) (hi : i.val = ro + a.val) (hj : j.val = co + n.val) :
    addf (extractStridedSlice S64x256 ![0, co] (extractStridedSlice S64x512 ![ro, 0] P h1) h2)
      (extf .f32 (shapeCast S64x256 w shapeCasts_S1x64x256_S64x256 : FVec Ideal S64x256 .bf16) bitsLt_bf16_f32) (ix2 a n)
      = P (ix2 i j) + w (ix3 0 a n) := by
  have e1 : extractStridedSlice S64x256 ![0, co] (extractStridedSlice S64x512 ![ro, 0] P h1) h2 (ix2 a n) = P (ix2 i j) := by
    refine (extractStridedSlice_apply _ _ _ _ (ix2 a j) fun x => ?_).trans (extractStridedSlice_apply _ _ _ _ _ fun x => ?_)
    · match x with
        | ⟨0, _⟩ => exact (Nat.zero_add _).symm
        | ⟨1, _⟩ => exact hj
    · match x with
        | ⟨0, _⟩ => exact hi
        | ⟨1, _⟩ => exact (Nat.zero_add _).symm
  exact congrArg₂ (· + ·) e1 (shapeCast_1ab_ab_apply w shapeCasts_S1x64x256_S64x256 a n)

/-- A held sum plus what arrived by the second exchange, at an index. -/
theorem last_piece (s : FVec Ideal S64x256 .f32) (w : Vec Ideal S1x64x256 .bf16) (a : Fin 64) (n : Fin 256) :
    shapeCast S1x64x256 (truncf .bf16 (addf s (extf .f32 (shapeCast S64x256 w shapeCasts_S1x64x256_S64x256 : FVec Ideal S64x256 .bf16) bitsLt_bf16_f32)) bitsLt_bf16_f32)
      shapeCasts_S64x256_S1x64x256 (ix3 0 a n) = s (ix2 a n) + w (ix3 0 a n) :=
  (shapeCast_ab_1ab_apply _ shapeCasts_S64x256_S1x64x256 0 a n).trans
    (congrArg (s (ix2 a n) + ·) (shapeCast_1ab_ab_apply w shapeCasts_S1x64x256_S64x256 a n))

/-- A held sum as stored for the second exchange, at an index. -/
theorem stored_piece (s : FVec Ideal S64x256 .f32) (a : Fin 64) (n : Fin 256) :
    shapeCast S1x64x256 (truncf .bf16 s bitsLt_bf16_f32) shapeCasts_S64x256_S1x64x256 (ix3 0 a n) = s (ix2 a n) :=
  shapeCast_ab_1ab_apply _ shapeCasts_S64x256_S1x64x256 0 a n

variable (A : Dev nD → Ins Ideal) (c : Dev nD)

/-- A piece's sum after the first exchange: the device's own share plus what its partner sent. -/
theorem accF_apply (p : Fin 8) (a : Fin 64) (n : Fin 256) :
    accF A c p (ix2 a n) = Pb (bat p) c (A c) (ix2 (rowOf p a) (colOf p n)) + cv A c p (ix3 0 a n) := by
  match p with
  | 0 => exact sum_piece (P0 c (A c)) 0 0 slices_S128x512_o0_0_S64x512 slices_S64x512_o0_0_S64x256 _ a n _ _ rfl rfl
  | 1 => exact sum_piece (P0 c (A c)) 0 256 slices_S128x512_o0_0_S64x512 slices_S64x512_o0_256_S64x256 _ a n _ _ rfl rfl
  | 2 => exact sum_piece (P0 c (A c)) 64 0 slices_S128x512_o64_0_S64x512 slices_S64x512_o0_0_S64x256 _ a n _ _ rfl rfl
  | 3 => exact sum_piece (P0 c (A c)) 64 256 slices_S128x512_o64_0_S64x512 slices_S64x512_o0_256_S64x256 _ a n _ _ rfl rfl
  | 4 => exact sum_piece (P1 c (A c)) 0 0 slices_S128x512_o0_0_S64x512 slices_S64x512_o0_0_S64x256 _ a n _ _ rfl rfl
  | 5 => exact sum_piece (P1 c (A c)) 0 256 slices_S128x512_o0_0_S64x512 slices_S64x512_o0_256_S64x256 _ a n _ _ rfl rfl
  | 6 => exact sum_piece (P1 c (A c)) 64 0 slices_S128x512_o64_0_S64x512 slices_S64x512_o0_0_S64x256 _ a n _ _ rfl rfl
  | 7 => exact sum_piece (P1 c (A c)) 64 256 slices_S128x512_o64_0_S64x512 slices_S64x512_o0_256_S64x256 _ a n _ _ rfl rfl

/-- Stored for sending, the sum of the first exchange is unchanged: over the extended reals no rounding happens. -/
theorem accS_apply (p : Fin 8) (a : Fin 64) (n : Fin 256) : accS A c p (ix3 0 a n) = accF A c p (ix2 a n) := by
  have e : accS A c p = shapeCast S1x64x256 (truncf .bf16 (accF A c p) bitsLt_bf16_f32) shapeCasts_S64x256_S1x64x256 := by
    match p with
    | 0 | 1 | 2 | 3 | 4 | 5 | 6 | 7 => rfl
  rw [e]; exact stored_piece _ a n

/-- A piece of the result: the first exchange's sum plus what the second partner sent. -/
theorem outP_apply (p : Fin 8) (a : Fin 64) (n : Fin 256) :
    outP A c p (ix3 0 a n) = accF A c p (ix2 a n) + cvF A c (hi p) (ix3 0 a n) := by
  match p with
  | 0 | 1 | 2 | 3 | 4 | 5 | 6 | 7 => exact last_piece _ _ a n

/-- What arrives for piece `p` by the first exchange is the neighbour's share there. -/
theorem cv_apply (p : Fin 8) (a : Fin 64) (n : Fin 256) :
    cv A c p (ix3 0 a n) = Pb (bat p) (peer (lo p) c) (A (peer (lo p) c)) (ix2 (rowOf p a) (colOf p n)) := by
  rw [← cvF_lo]
  show SF A (peer (lo p) c) ((pR (lo p)).emb (ix3 0 a n)) = _
  generalize peer (lo p) c = d
  have hp := p.isLt
  have e0 : ((pR (lo p)).emb (ix3 0 a n) 0).val = 0 := by
    show p.val / 8 + 1 * 0 = 0; omega
  have e2 : ((pR (lo p)).emb (ix3 0 a n) 2).val = (colOf p n).val := by
    show 256 * (p.val % 2) + 1 * n.val = _; rw [Nat.one_mul]
  have e1 : ((pR (lo p)).emb (ix3 0 a n) 1).val = 64 * (p.val / 2 % 4) + a.val := by
    show 64 * (p.val / 2 % 4) + 1 * a.val = _; rw [Nat.one_mul]
  by_cases h4 : p.val < 4
  · have hb : bat p = 0 := Fin.ext (by show p.val / 4 = 0; omega)
    rw [hb]
    refine (SF_batch0 A d (ix3 0 (rowOf p a) (colOf p n)) _ e0 ?_ e2).trans ?_
    · rw [e1]; show _ = 64 * (p.val / 2 % 2) + a.val; omega
    · rw [S0_eq]; exact shapeCast_ab_1ab_apply _ shapeCasts_S128x512_S1x128x512 0 _ _
  · have hb : bat p = 1 := Fin.ext (by show p.val / 4 = 1; omega)
    rw [hb]
    refine (SF_batch1 A d (ix3 0 (rowOf p a) (colOf p n)) _ e0 ?_ e2).trans ?_
    · rw [e1]; show _ = 128 + (64 * (p.val / 2 % 2) + a.val); omega
    · rw [S1_eq]; exact shapeCast_ab_1ab_apply _ shapeCasts_S128x512_S1x128x512 0 _ _

/-- What arrives by the second exchange is the other neighbour's sum. -/
theorem cvF_hi_apply (p : Fin 8) (a : Fin 64) (n : Fin 256) :
    cvF A c (hi p) (ix3 0 a n) = accF A (peer (hi p) c) p (ix2 a n) := by
  rw [← accS_apply]
  have hp := p.isLt
  refine SF_acc A (peer (hi p) c) p (ix3 0 a n) _ ?_ ?_ ?_
  · show (p.val + 8) / 8 + 1 * 0 = 1; omega
  · show 64 * ((p.val + 8) / 2 % 4) + 1 * a.val = 64 * (p.val / 2 % 4) + a.val; omega
  · show 256 * ((p.val + 8) % 2) + 1 * n.val = 256 * (p.val % 2) + n.val; omega

/-- A device, its two neighbours and the neighbour's neighbour are the four devices. -/
theorem four_shares (f : Dev nD → EReal) (p : Fin 8) (c : Dev nD) :
    f c + f (peer (lo p) c) + (f (peer (hi p) c) + f (peer (lo p) (peer (hi p) c))) = ∑ d : Fin 4, f d := by
  have hc : (cls (lo p) = false ∧ cls (hi p) = true) ∨ (cls (lo p) = true ∧ cls (hi p) = false) := by revert p; decide
  unfold peer
  have key : ∀ c : Dev nD, f c + f (p1 c) + (f (p2 c) + f (p1 (p2 c))) = ∑ d : Fin 4, f d
      ∧ f c + f (p2 c) + (f (p1 c) + f (p2 (p1 c))) = ∑ d : Fin 4, f d := by
    intro c
    rw [Fin.sum_univ_four]
    match c with
    | 0 => exact ⟨by show f 0 + f 1 + (f 3 + f 2) = _; abel, by show f 0 + f 3 + (f 1 + f 2) = _; abel⟩
    | 1 => exact ⟨by show f 1 + f 0 + (f 2 + f 3) = _; abel, by show f 1 + f 2 + (f 0 + f 3) = _; abel⟩
    | 2 => exact ⟨by show f 2 + f 3 + (f 1 + f 0) = _; abel, by show f 2 + f 1 + (f 3 + f 0) = _; abel⟩
    | 3 => exact ⟨by show f 3 + f 2 + (f 0 + f 1) = _; abel, by show f 3 + f 0 + (f 2 + f 1) = _; abel⟩
  rcases hc with ⟨h1, h2⟩ | ⟨h1, h2⟩ <;> rw [h1, h2]
  · exact (key c).1
  · exact (key c).2

/-- The result of every device is the sum of the four shares. -/
theorem outF_apply (b : Fin 2) (i : Fin 128) (n : Fin 512) :
    outF A c (ix3 b i n) = ∑ d : Fin 4, Pb b d (A d) (ix2 i n) := by
  obtain ⟨p, a, n', hb, hi', hn⟩ : ∃ (p : Fin 8) (a : Fin 64) (n' : Fin 256), b = bat p ∧ i = rowOf p a ∧ n = colOf p n' :=
    ⟨⟨4 * b.val + 2 * (i.val / 64) + n.val / 256, by omega⟩, ⟨i.val % 64, by omega⟩, ⟨n.val % 256, by omega⟩,
      Fin.ext (by show b.val = (4 * b.val + 2 * (i.val / 64) + n.val / 256) / 4; omega),
      Fin.ext (by show i.val = 64 * ((4 * b.val + 2 * (i.val / 64) + n.val / 256) / 2 % 2) + i.val % 64; omega),
      Fin.ext (by show n.val = 256 * ((4 * b.val + 2 * (i.val / 64) + n.val / 256) % 2) + n.val % 256; omega)⟩
  subst hb hi' hn
  refine (outF_piece A c p (ix3 0 a n') _ rfl rfl rfl).trans ?_
  rw [outP_apply, accF_apply, cv_apply, cvF_hi_apply, accF_apply, cv_apply]
  exact four_shares (fun d => Pb (bat p) d (A d) (ix2 (rowOf p a) (colOf p n'))) p c

end Cert.KernelIdeal.Tp

end
-- ==== Proof.KernelRead.lean ====
/-
  The blocks each device computes from, as elements of its arguments.
-/
module

public import proofs.«01_k».proof.Proof.Region
public import proofs.«01_k».proof.Proof.Exchange

@[expose] public section

noncomputable section

namespace Cert.KernelIdeal.Tp

open Idealize.ShloMosaic Idealize.ShloMosaic.TcCoe Idealize.SL.Sem Idealize.ShloMosaic.ValueIdx Idealize.ShloMosaic.StableHlo
open Cert.KernelIdeal.Gen

section Blocks

variable (I : Ins Ideal)

/-- The window of the inputs that batch `b` is computed from. -/
theorem x0_apply (r : Fin 128) (t : Fin 512) : x0 I (ix3 0 r t) = (I.x : FVec Ideal S2x128x512 .bf16) (ix3 0 r t) :=
  congrArg (I.x : FVec Ideal S2x128x512 .bf16) (funext fun a => Fin.ext (match a with
    | ⟨0, _⟩ => by show 0 + 1 * 0 = 0; omega
    | ⟨1, _⟩ => by show 0 + 1 * r.val = r.val; omega
    | ⟨2, _⟩ => by show 0 + 1 * t.val = t.val; omega))
/-- The second batch's block is row block 1 of the input. -/
theorem x1_apply (r : Fin 128) (t : Fin 512) : x1 I (ix3 0 r t) = (I.x : FVec Ideal S2x128x512 .bf16) (ix3 1 r t) :=
  congrArg (I.x : FVec Ideal S2x128x512 .bf16) (funext fun a => Fin.ext (match a with
    | ⟨0, _⟩ => by show 1 + 1 * 0 = 1; omega
    | ⟨1, _⟩ => by show 0 + 1 * r.val = r.val; omega
    | ⟨2, _⟩ => by show 0 + 1 * t.val = t.val; omega))

/-- The weights are read whole. -/
theorem wqV_apply (t : Fin 512) (m : Fin 256) : wqV I (ix2 t m) = (I.wq : FVec Ideal S512x256 .bf16) (ix2 t m) := by
  unfold wqV k0_pay2; rw [shapeCast_self]
  exact congrArg (I.wq : FVec Ideal S512x256 .bf16) (funext fun a => Fin.ext (match a with
    | ⟨0, _⟩ => by show 0 + 1 * t.val = t.val; omega
    | ⟨1, _⟩ => by show 0 + 1 * m.val = m.val; omega))
/-- The output weights are read whole. -/
theorem woV_apply (m : Fin 256) (n : Fin 512) : woV I (ix2 m n) = (I.wo : FVec Ideal S256x512 .bf16) (ix2 m n) := by
  unfold woV k0_pay3; rw [shapeCast_self]
  exact congrArg (I.wo : FVec Ideal S256x512 .bf16) (funext fun a => Fin.ext (match a with
    | ⟨0, _⟩ => by show 0 + 1 * m.val = m.val; omega
    | ⟨1, _⟩ => by show 0 + 1 * n.val = n.val; omega))

/-- Where the two key (and value) windows of a device start. -/
theorem off1_eq (c : Dev nD) : k0_off1 c = ![0, 0, 256 * c.val] := by revert c; decide
/-- Device `c` reads batch 1's keys and values from column `256 c` on. -/
theorem off2_eq (c : Dev nD) : k0_off2 c = ![1, 0, 256 * c.val] := by revert c; decide

/-- The element of a window of 256 columns of device `c`. -/
theorem win_apply (y : Vec Ideal S2x128x1024 .bf16) (b : Fin 2) (c : Dev nD) (off : Fin 3 → Nat) (ho : off = ![b.val, 0, 256 * c.val])
    (h : ∀ a, off a + S1x128x256.size a ≤ S2x128x1024.size a) (j : Fin 128) (m : Fin 256) (M : Fin 1024) (hM : M.val = 256 * c.val + m.val) :
    y ((Rect.unit (s := S2x128x1024) off S1x128x256.size h).emb (ix3 0 j m)) = y (ix3 b j M) := by
  subst ho
  refine congrArg y (funext fun a => Fin.ext ?_)
  match a with
  | ⟨0, _⟩ => show b.val + 1 * 0 = b.val; omega
  | ⟨1, _⟩ => show 0 + 1 * j.val = j.val; omega
  | ⟨2, _⟩ => show 256 * c.val + 1 * m.val = M.val; omega

/-- The keys device `c` reads of batch 0 are its 256 columns of the whole array. -/
theorem k0r_apply (c : Dev nD) (j : Fin 128) (m : Fin 256) (M : Fin 1024) (hM : M.val = 256 * c.val + m.val) :
    k0r c I (ix3 0 j m) = (I.k : Vec Ideal S2x128x1024 .bf16) (ix3 0 j M) := win_apply I.k 0 c _ (off1_eq c) (k0_off1_inb c) j m M hM
/-- The keys device `c` reads of batch 1, likewise. -/
theorem k1r_apply (c : Dev nD) (j : Fin 128) (m : Fin 256) (M : Fin 1024) (hM : M.val = 256 * c.val + m.val) :
    k1r c I (ix3 0 j m) = (I.k : Vec Ideal S2x128x1024 .bf16) (ix3 1 j M) := win_apply I.k 1 c _ (off2_eq c) (k0_off2_inb c) j m M hM
/-- The values device `c` reads of batch 0, likewise. -/
theorem v0r_apply (c : Dev nD) (j : Fin 128) (m : Fin 256) (M : Fin 1024) (hM : M.val = 256 * c.val + m.val) :
    v0r c I (ix3 0 j m) = (I.v : Vec Ideal S2x128x1024 .bf16) (ix3 0 j M) := win_apply I.v 0 c _ (off1_eq c) (k0_off1_inb c) j m M hM
/-- The values device `c` reads of batch 1, likewise. -/
theorem v1r_apply (c : Dev nD) (j : Fin 128) (m : Fin 256) (M : Fin 1024) (hM : M.val = 256 * c.val + m.val) :
    v1r c I (ix3 0 j m) = (I.v : Vec Ideal S2x128x1024 .bf16) (ix3 1 j M) := win_apply I.v 1 c _ (off2_eq c) (k0_off2_inb c) j m M hM

end Blocks

/-! ## The key and value arrays, laid head by head along their columns -/

variable (m : (ℓ : Loc nD τ sig) → Buf (Elt Ideal) ℓ) (c : Dev nD)

/-- Flattening the heads puts element `M % 64` of head `M / 64` at column `M`. -/
theorem heads_apply (y : FVec Ideal S2x128x16x64 .bf16) (b : Fin 2) (j : Fin 128) (M : Fin 1024) :
    shapeCast S2x128x1024 y shapeCasts_S2x128x16x64_S2x128x1024 (ix3 b j M) = y (ix4 b j ⟨M.val / 64, by omega⟩ ⟨M.val % 64, by omega⟩) := by
  refine shapeCast_apply _ _ _ _ ?_
  simp [Shape.rowMajor_val_three, Shape.rowMajor_val_four, ix3, ix4]
  omega

/-- The keys the kernel is given are the argument with its heads laid side by side. -/
theorem V_main_v1 : V m c main_v1 = shapeCast S2x128x1024 (m ((c.tc : Thread nD τ).loc main_arg2) : FVec Ideal S2x128x16x64 .bf16) shapeCasts_S2x128x16x64_S2x128x1024 := by
  show after hostOps0 (fun b => m (c, b)) (Proc.devRef .tc main_v1) = _
  simp only [hostOps0]
  after_results_simp <;> rfl
/-- The values the kernel is given are the argument with its heads laid side by side. -/
theorem V_main_v2 : V m c main_v2 = shapeCast S2x128x1024 (m ((c.tc : Thread nD τ).loc main_arg3) : FVec Ideal S2x128x16x64 .bf16) shapeCasts_S2x128x16x64_S2x128x1024 := by
  show after hostOps0 (fun b => m (c, b)) (Proc.devRef .tc main_v2) = _
  simp only [hostOps0]
  after_results_simp <;> rfl

end Cert.KernelIdeal.Tp

end
-- ==== Proof.RefRegion.lean ====
/-
  The reference up to and including its masking region: what the region leaves in its result array is the masked scores
  of what stood in its operands, and what stood there is the host's operations on the arguments.
-/
module

public import proofs.«01_k».proof.Proof.Gen.ReferenceIdeal.Read
public import Idealize.ShloMosaic.Lib.Pipeline.Value
public import Idealize.ShloMosaic.Lib.Pipeline.ValueKit.Geometry

@[expose] public section

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F] [Named F]
variable (m : (ℓ : Loc nD τ sig) → Buf (Elt F) ℓ) (c : Dev nD)

/-- What the region is shown to leave: its body's value on the whole operands. -/
abbrev val : Buf (Elt F) ((c.tc : Thread nD τ).loc main_v23) := k0_pay1 (F := F) (V m c main_v14) (V m c main_v11) (V m c main_v22)

/-- The offset of a whole two-axis window is zero. -/
theorem hz2 : (![0, 0] : Fin 2 → Nat) = fun _ => 0 := funext fun a => by fin_cases a <;> rfl
/-- The offset of a whole four-axis window is zero. -/
theorem hz4 : (![0, 0, 0, 0] : Fin 4 → Nat) = fun _ => 0 := funext fun a => by fin_cases a <;> rfl

/-- The body leaves its value on whatever the three operand blocks hold. -/
theorem out_eq (x0 : Vec F S1x128 .i32) (x1 : Vec F S128x1 .i32) (x2 : Vec F S2x16x128x128 .f32) : out0_3 x0 x1 x2 = k0_pay1 x0 x1 x2 := by
  unfold out0_3
  rw [View.canon_unit_zero hz4, View.ld_unit_zero hz2, View.ld_unit_zero hz2, View.ld_unit_zero hz4]

/-- Every window's one block starts at the array's start. -/
theorem index_zero : ∀ (w : Fin cfg0.W) (a), (cfg0.win w).index t0_0 a = 0 := by decide +kernel

/-- The operand blocks are the whole operands. -/
theorem iblk0 : (iblk m c 0 t0_0 : Vec F S1x128 .i32) = V m c main_v14 :=
  funext fun j => congrArg (V m c main_v14) (funext fun a => Fin.ext ((cfg0.win 0).rect_emb_val_of_index_zero t0_0 a (index_zero 0 a) j))
/-- The region's second block is its whole second operand. -/
theorem iblk1 : (iblk m c 1 t0_0 : Vec F S128x1 .i32) = V m c main_v11 :=
  funext fun j => congrArg (V m c main_v11) (funext fun a => Fin.ext ((cfg0.win 1).rect_emb_val_of_index_zero t0_0 a (index_zero 1 a) j))
/-- The region's third block is its whole third operand. -/
theorem iblk2 : (iblk m c 2 t0_0 : Vec F S2x16x128x128 .f32) = V m c main_v22 :=
  funext fun j => congrArg (V m c main_v22) (funext fun a => Fin.ext ((cfg0.win 2).rect_emb_val_of_index_zero t0_0 a (index_zero 2 a) j))

/-- After its one step the region's output block holds the body's value. -/
theorem after_eq : ((dats m 0 c).after 3 t0_0 : Vec F S2x16x128x128 .f32) = val m c :=
  (after0_3 m c t0_0).trans ((out_eq _ _ _).trans (by rw [iblk0, iblk1, iblk2]))

/-- The region's result array ends holding the masked scores. -/
theorem reg_eq : Value.reg_main_v23 m c = k0_pay1 (F := F) (V m c main_v14) (V m c main_v11) (V m c main_v22) :=
  (dats m 0 c).arrAt_eq_of_after_last 3 t0_0 (by decide +kernel) (val m c) fun i => congrFun (after_eq m c) i

/-! ## The region's operands -/

/-- The host's flooring quotient of the row numbers by 64. -/
def blocks : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

/-- The scaled scores the host forms from the inputs `x`, the query weights and the keys. -/
def scores (x : FVec F S2x128x512 .bf16) (wq : FVec F S512x1024 .bf16) (k : FVec F S2x128x16x64 .bf16) : FVec F S2x16x128x128 .f32 :=
  mulf
    (extf .f32 (truncf .bf16
      (Host.dotGeneral dot_S2x128x16x64_S2x128x16x64_S2x16x128x128_3_3_1_1_02_02 none
        (shapeCast S2x128x16x64
          (extf .f32 (truncf .bf16
            (Host.dotGeneral dot_S2x128x512_S512x1024_S2x128x1024_2_0_01_1_n_n none (extf .f32 x bitsLt_bf16_f32) (extf .f32 wq bitsLt_bf16_f32))
            bitsLt_bf16_f32) bitsLt_bf16_f32)
          shapeCasts_S2x128x1024_S2x128x16x64)
        (extf .f32 k bitsLt_bf16_f32))
      bitsLt_bf16_f32) bitsLt_bf16_f32)
    (broadcastInDim S2x16x128x128 ![] bcast_S_S2x16x128x128 (constant S_ .f32 0x3E000000#32))

set_option maxRecDepth 8192 in
set_option maxHeartbeats 2000000 in
/-- The first operand is the row of the block numbers. -/
theorem V_main_v14 : V m c main_v14 = broadcastInDim S1x128 ![1] bcast_S128_S1x128_1 blocks := by
  unfold blocks
  show Gen.V0 m c (Proc.devRef .tc main_v14) = _
  simp only [Gen.V0, Gen.hostOps0, Gen.hostOps0_1, Gen.hostOps0_2, Gen.hostOps0_3, Gen.hostOps0_4, TRef.binary, TRef.nullary, TRef.ternary, TRef.unary, TRef.toBuf, TRef.ofBuf, cast_eq, List.flatten_cons, List.flatten_nil, List.append_nil, List.cons_append, List.nil_append]
  after_results_simp <;> rfl

set_option maxRecDepth 8192 in
set_option maxHeartbeats 2000000 in
/-- The second operand is the column of the block numbers. -/
theorem V_main_v11 : V m c main_v11 = broadcastInDim S128x1 ![0] bcast_S128_S128x1_0 blocks := by
  unfold blocks
  show Gen.V0 m c (Proc.devRef .tc main_v11) = _
  simp only [Gen.V0, Gen.hostOps0, Gen.hostOps0_1, Gen.hostOps0_2, Gen.hostOps0_3, Gen.hostOps0_4, TRef.binary, TRef.nullary, TRef.ternary, TRef.unary, TRef.toBuf, TRef.ofBuf, cast_eq, List.flatten_cons, List.flatten_nil, List.append_nil, List.cons_append, List.nil_append]
  after_results_simp <;> rfl

set_option maxRecDepth 8192 in
set_option maxHeartbeats 2000000 in
/-- The third operand is the scaled scores. -/
theorem V_main_v22 : V m c main_v22
    = scores (m ((c.tc : Thread nD τ).loc main_arg0)) (m ((c.tc : Thread nD τ).loc main_arg1)) (m ((c.tc : Thread nD τ).loc main_arg2)) := by
  unfold scores
  show Gen.V0 m c (Proc.devRef .tc main_v22) = _
  simp only [Gen.V0, Gen.hostOps0, Gen.hostOps0_1, Gen.hostOps0_2, Gen.hostOps0_3, Gen.hostOps0_4, TRef.binary, TRef.nullary, TRef.ternary, TRef.unary, TRef.toBuf, TRef.ofBuf, cast_eq, List.flatten_cons, List.flatten_nil, List.append_nil, List.cons_append, List.nil_append]
  after_results_simp <;> rfl

/-- The mask the host keeps for the rows that see some key. -/
theorem exit_mask : Value.exitV m c (Proc.devRef .tc main_v17)
    = cmpi .sle (broadcastInDim S128x128 ![0, 1] bcast_S1x128_S128x128_0_1 (broadcastInDim S1x128 ![1] bcast_S128_S1x128_1 blocks))
        (broadcastInDim S128x128 ![0, 1] bcast_S128x1_S128x128_0_1 (broadcastInDim S128x1 ![0] bcast_S128_S128x1_0 blocks)) :=
  Value.exit_main_v17 m c

end Cert.ReferenceIdeal.RefValue

end
-- ==== Proof.RefTail.lean ====
/-
  The reference's host operations after the masking region, read at an index over the extended reals: each row of the
  masked scores becomes its exponentials over their sum, the heads gather the values, and the output weights gather the
  heads.
-/
module

public import proofs.«01_k».proof.Proof.RefRegion
public import Idealize.ShloMosaic.PureOps.Ideal.Laws

@[expose] public section

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-- The greatest entry of a row, minus infinity where there is none. -/
def top (s : Fin 128 → EReal) : EReal := Finset.univ.fold max ⊥ s

/-- One entry of the softmax of a row, the row's greatest entry subtracted first. -/
def soft (s : Fin 128 → EReal) (j : Fin 128) : EReal :=
  Ideal.div (Ideal.exp (s j - top s)) (0 + ∑ j' : Fin 128, Ideal.exp (s j' - top s))

variable (r0 : FVec Ideal S2x16x128x128 .f32) (e0 : IVec S128x128 1)

/-- Dropping the last axis of the scores leaves batch, head and row. -/
theorem redu : S2x16x128x128.Reduces [3] S2x16x128 := by decide

/-- The lifted index is the row's index with the column appended. -/
theorem redu_lift (b : Fin 2) (h : Fin 16) (i k : Fin 128) : redu.lift (ix3 b h i : S2x16x128.Idx) k = (ix4 b h i k : S2x16x128x128.Idx) :=
  funext fun a => Fin.ext (by fin_cases a <;> rfl)

/-- The row maximum. -/
theorem v24_apply (b : Fin 2) (h : Fin 16) (i : Fin 128) :
    val_main_v24 (F := Ideal) r0 (ix3 b h i : S2x16x128.Idx) = top fun k => r0 (ix4 b h i k) := by
  unfold val_main_v24
  refine (Host.reduce_eq_fold_single (FloatOps.maximumf (F := Ideal) (φ := .f32)) r0 _ _ redu _ _).trans ?_
  unfold top
  have e : (val_main_cst_1 (F := Ideal)) (Shape.Idx.first h_S_) = ⊥ := by
    show Ideal.ofBits .f32 0xFF800000#32 = ⊥
    simp [Ideal.ofBits, Ideal.ieee]
  rw [e]
  exact congrArg (Finset.fold max (⊥ : EReal) · Finset.univ) (funext fun k => congrArg r0 (redu_lift b h i k))

/-- The exponentials. -/
theorem v28_apply (b : Fin 2) (h : Fin 16) (i k : Fin 128) :
    val_main_v28 (F := Ideal) r0 (ix4 b h i k : S2x16x128x128.Idx) = Ideal.exp (r0 (ix4 b h i k) - top fun k => r0 (ix4 b h i k)) := by
  rw [val_main_v28_apply, val_main_v27_apply, val_main_v26_apply, val_main_v25_apply]
  refine congrArg Ideal.exp (congrArg (r0 (ix4 b h i k) - ·) ?_)
  refine Eq.trans (congrArg (val_main_v24 (F := Ideal) r0) ?_) (v24_apply r0 b h i)
  funext a; fin_cases a <;> rfl

/-- A fold by "or" that meets a one is one. -/
theorem foldl_ori_one {ι : Type} (f : ι → BitVec 1) : ∀ (l : List ι) (init : BitVec 1), (init = 1#1 ∨ ∃ n ∈ l, f n = 1#1) →
    l.foldl (fun r n => IntOp.ori r (f n)) init = 1#1
  | [], _, h => by simpa using h
  | a :: l, init, h => by
    refine foldl_ori_one f l _ ?_
    rcases h with h | ⟨n, hn, e⟩
    · left; subst h; show IntOp.ori 1#1 (f a) = 1#1; generalize f a = x; revert x; decide
    · rcases List.mem_cons.1 hn with rfl | hn
      · left; show IntOp.ori init (f n) = 1#1; rw [e]; revert init; decide
      · exact .inr ⟨n, hn, e⟩

variable (he : ∀ r j : Fin 128, e0 (ix2 r j) = if j.val / 64 ≤ r.val / 64 then 1#1 else 0#1)
include he

/-- Every row keeps something: its first key's block is not after its own. -/
theorem v29_apply (j : S128.Idx) : val_main_v29 (F := Ideal) e0 j = 1#1 := by
  unfold val_main_v29
  rw [Host.reduce_eq_foldl]
  refine foldl_ori_one e0 _ _ (.inr ⟨ix2 (j 0) 0, ?_, ?_⟩)
  · rw [List.mem_filter]
    refine ⟨List.mem_map.2 ⟨S128x128.rowMajor (ix2 (j 0) 0), List.mem_finRange _, Equiv.symm_apply_apply _ _⟩, ?_⟩
    have : reducesTo_S128x128_S128_d1.drop (ix2 (j 0) 0 : S128x128.Idx) = j := funext fun a => Fin.ext (by fin_cases a; rfl)
    simpa using this
  · exact (he (j 0) 0).trans (by simp)

/-- The weights. -/
theorem v37_apply (b : Fin 2) (h : Fin 16) (i k : Fin 128) :
    val_main_v37 (F := Ideal) r0 e0 (ix4 b h i k : S2x16x128x128.Idx) = soft (fun k => r0 (ix4 b h i k)) k := by
  have o : ∀ x y : EReal, Scalar.select 1#1 x y = x := fun _ _ => rfl
  rw [val_main_v37_apply, val_main_call3_v1_apply, val_main_v36_apply, v29_apply e0 he, o, val_main_v35_apply, val_main_v34_apply, val_main_v33_apply,
    val_main_call2_v1_apply, val_main_v30_apply, v29_apply e0 he, o, val_main_v32_apply, val_main_v31_apply, v28_apply]
  refine congrArg (Ideal.div _) ?_
  have e : (val_main_cst_3 (F := Ideal)) (Shape.Idx.first h_S_) = 0 := by
    show Ideal.ofBits .f32 0x00000000#32 = 0
    simp [Ideal.ofBits, Ideal.ieee]
  rw [e]
  refine congrArg (0 + ·) (Finset.sum_congr rfl fun k' _ => Eq.trans (congrArg (val_main_v28 (F := Ideal) r0) ?_) (v28_apply r0 b h i k'))
  funext a; fin_cases a <;> rfl

/-- The heads' values gathered, at a row and a column of the head-major layout. -/
theorem v40_apply (e1 : FVec Ideal S2x128x16x64 .f32) (b : Fin 2) (i : Fin 128) (M : Fin 1024) :
    val_main_v40 (F := Ideal) r0 e0 e1 (ix3 b i M : S2x128x1024.Idx)
      = ∑ j : Fin 128, e1 (ix4 b j ⟨M.val / 64, by omega⟩ ⟨M.val % 64, by omega⟩)
          * soft (fun k => r0 (ix4 b ⟨M.val / 64, by omega⟩ i k)) j := by
  rw [val_main_v40_apply, val_main_v39_apply, val_main_v38_apply]
  refine Finset.sum_congr rfl fun j _ => congrArg₂ (· * ·) (congrArg e1 ?_) (Eq.trans (congrArg (val_main_v37 (F := Ideal) r0 e0) ?_) (v37_apply r0 e0 he b _ i j))
  all_goals
    funext a; refine Fin.ext ?_
    have := b.isLt; have := i.isLt; have := M.isLt
    fin_cases a <;> simp [ix3, ix4] <;> omega

/-- The result. -/
theorem v42_apply (e1 : FVec Ideal S2x128x16x64 .f32) (e2 : FVec Ideal S1024x512 .f32) (b : Fin 2) (i : Fin 128) (n : Fin 512) :
    val_main_v42 (F := Ideal) r0 e0 e1 e2 (ix3 b i n : S2x128x512.Idx)
      = ∑ M : Fin 1024, (∑ j : Fin 128, e1 (ix4 b j ⟨M.val / 64, by omega⟩ ⟨M.val % 64, by omega⟩)
          * soft (fun k => r0 (ix4 b ⟨M.val / 64, by omega⟩ i k)) j) * e2 (ix2 M n) := by
  rw [val_main_v42_apply]
  show val_main_v41 (F := Ideal) r0 e0 e1 e2 (ix3 b i n : S2x128x512.Idx) = _
  rw [val_main_v41_apply]
  refine Finset.sum_congr rfl fun M _ => congrArg₂ (· * ·) (Eq.trans (congrArg (val_main_v40 (F := Ideal) r0 e0 e1) ?_) (v40_apply r0 e0 he e1 b i M)) (congrArg e2 ?_)
  · funext a; fin_cases a <;> rfl
  · funext a; fin_cases a <;> rfl

end Cert.ReferenceIdeal.RefValue

end
-- ==== Proof.RefRead.lean ====
/-
  The reference read at an index over the extended reals: its scores, its mask, and its result.
-/
module

public import proofs.«01_k».proof.Proof.RefTail
public import Idealize.ShloMosaic.Lib.ValueLayout

@[expose] public section

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! ## The mask -/

/-- The sign of a word. -/
def sgn (x : BitVec 32) : BitVec 32 := if x = 0 then 0 else if x.msb then -1 else 1

/-- The host's flooring quotient of the word of `n` by 64. -/
def flr (n : Nat) : BitVec 32 :=
  Scalar.select
    (IntOp.andi
      (IntOp.cmpi .ne
        (sgn (BitVec.ofNat 32 n))
        (sgn 64#32))
      (IntOp.cmpi .ne (IntOp.remsi .host (BitVec.ofNat 32 n) 64#32) 0#32))
    (IntOp.subi (IntOp.divsi .host (BitVec.ofNat 32 n) 64#32) 1#32)
    (IntOp.divsi .host (BitVec.ofNat 32 n) 64#32)

/-- On the row numbers it is the number of the row's block. -/
theorem flr_eq : ∀ n : Fin 128, flr n.val = BitVec.ofNat 32 (n.val / 64) := by decide +kernel

/-- The reference's block number of row `n` is `n / 64`. -/
theorem blocks_apply (n : Fin 128) : blocks (ix1 n) = BitVec.ofNat 32 (n.val / 64) := by
  rw [← flr_eq n]; rfl

/-- Comparing two block numbers as words compares them. -/
theorem sle_blocks : ∀ a b : Fin 2, (IntOp.cmpi .sle (BitVec.ofNat 32 a.val) (BitVec.ofNat 32 b.val)) = if a.val ≤ b.val then 1#1 else 0#1 := by decide

/-- The reference compares two block numbers as natural numbers. -/
theorem keeps (r j : Fin 128) : IntOp.cmpi .sle (blocks (ix1 j)) (blocks (ix1 r)) = if j.val / 64 ≤ r.val / 64 then 1#1 else 0#1 := by
  rw [blocks_apply, blocks_apply]; exact sle_blocks ⟨j.val / 64, by omega⟩ ⟨r.val / 64, by omega⟩

/-- The key blocks along the columns. -/
theorem kb_apply (j : Fin 128) : broadcastInDim S1x128 ![1] bcast_S128_S1x128_1 blocks (ix2 0 j) = blocks (ix1 j) :=
  broadcastInDim_apply _ _ _ _ _ fun a => match a with
    | ⟨0, _⟩ => rfl
/-- The query blocks along the rows. -/
theorem qb_apply (r : Fin 128) : broadcastInDim S128x1 ![0] bcast_S128_S128x1_0 blocks (ix2 r 0) = blocks (ix1 r) :=
  broadcastInDim_apply _ _ _ _ _ fun a => match a with
    | ⟨0, _⟩ => rfl

/-- The mask the host keeps, at an index. -/
theorem exit_mask_apply (m : (ℓ : Loc nD τ sig) → Buf (Elt Ideal) ℓ) (c : Dev nD) (r j : Fin 128) :
    (Value.exitV m c (Proc.devRef .tc main_v17) : IVec S128x128 1) (ix2 r j) = if j.val / 64 ≤ r.val / 64 then 1#1 else 0#1 := by
  rw [exit_mask, ← keeps]
  refine congrArg₂ (IntOp.cmpi .sle) (Eq.trans ?_ (kb_apply j)) (Eq.trans ?_ (qb_apply r))
  · exact broadcastInDim_apply _ _ _ _ _ fun a => match a with
      | ⟨0, _⟩ => rfl
      | ⟨1, _⟩ => rfl
  · exact broadcastInDim_apply _ _ _ _ _ fun a => match a with
      | ⟨0, _⟩ => rfl
      | ⟨1, _⟩ => rfl

/-! ## The scores -/

/-- One projected query element. -/
def proj (x : FVec Ideal S2x128x512 .bf16) (wq : FVec Ideal S512x1024 .bf16) (b : Fin 2) (i : Fin 128) (M : Fin 1024) : EReal :=
  ∑ t : Fin 512, x (ix3 b i t) * wq (ix2 t M)

/-- The query projection is a matrix product, batch by batch. -/
theorem proj_apply (x : FVec Ideal S2x128x512 .f32) (wq : FVec Ideal S512x1024 .f32) (b : Fin 2) (i : Fin 128) (M : Fin 1024) :
    Host.dotGeneral (F := Ideal) dot_S2x128x512_S512x1024_S2x128x1024_2_0_01_1_n_n none x wq (ix3 b i M : S2x128x1024.Idx)
      = ∑ t : Fin 512, x (ix3 b i t) * wq (ix2 t M) := by
  simp only [Host.dotGeneral]
  rw [Ideal.dotGeneral_apply, ← Equiv.sum_comp (ValueIdx.contrEquiv1 dot_S2x128x512_S512x1024_S2x128x1024_2_0_01_1_n_n 512 rfl rfl).symm]
  refine Finset.sum_congr rfl fun t _ => congrArg₂ (· * ·) (congrArg x ?_) (congrArg wq ?_)
  · funext a; fin_cases a <;> rfl
  · funext a; fin_cases a <;> rfl

/-- The scores before scaling are products of queries and keys, head by head. -/
theorem qk_apply (q k : FVec Ideal S2x128x16x64 .f32) (b : Fin 2) (h : Fin 16) (i j : Fin 128) :
    Host.dotGeneral (F := Ideal) dot_S2x128x16x64_S2x128x16x64_S2x16x128x128_3_3_1_1_02_02 none q k (ix4 b h i j : S2x16x128x128.Idx)
      = ∑ d : Fin 64, q (ix4 b i h d) * k (ix4 b j h d) := by
  simp only [Host.dotGeneral]
  rw [Ideal.dotGeneral_apply, ← Equiv.sum_comp (ValueIdx.contrEquiv1 dot_S2x128x16x64_S2x128x16x64_S2x16x128x128_3_3_1_1_02_02 64 rfl rfl).symm]
  refine Finset.sum_congr rfl fun t _ => congrArg₂ (· * ·) (congrArg q ?_) (congrArg k ?_)
  · funext a; fin_cases a <;> rfl
  · funext a; fin_cases a <;> rfl

/-- One score: the projected query row against the key row, scaled by an eighth. -/
def score (x : FVec Ideal S2x128x512 .bf16) (wq : FVec Ideal S512x1024 .bf16) (k : FVec Ideal S2x128x16x64 .bf16) (b : Fin 2) (h : Fin 16) (i j : Fin 128) : EReal :=
  (∑ d : Fin 64, proj x wq b i ⟨64 * h.val + d.val, by omega⟩ * k (ix4 b j h d)) * ((0.125 : ℝ) : EReal)

/-- The word the reference scales by denotes 1/8. -/
theorem eighth_word : Ideal.ofBits .f32 0x3E000000#32 = ((0.125 : ℝ) : EReal) := by
  simp [Ideal.ofBits, Ideal.ieee, -EReal.coe_mul]; norm_num

/-- The reference's scaled scores have the value `score` at every entry. -/
theorem scores_apply (x : FVec Ideal S2x128x512 .bf16) (wq : FVec Ideal S512x1024 .bf16) (k : FVec Ideal S2x128x16x64 .bf16) (b : Fin 2) (h : Fin 16) (i j : Fin 128) :
    scores x wq k (ix4 b h i j) = score x wq k b h i j := by
  unfold scores score
  refine Eq.trans (congrArg (· * Ideal.ofBits .f32 0x3E000000#32) (qk_apply _ _ b h i j)) ?_
  rw [eighth_word]
  refine congrArg (· * _) (Finset.sum_congr rfl fun d _ => congrArg (· * _) ?_)
  refine Eq.trans (shapeCast_apply _ _ _ (ix3 b i ⟨64 * h.val + d.val, by omega⟩) ?_) (proj_apply _ _ b i _)
  simp [Shape.rowMajor_val_three, Shape.rowMajor_val_four, ix3, ix4]
  omega

/-! ## The masked scores and the result -/

/-- A score where the key's block is not after the query's, minus infinity elsewhere. -/
def masked (x : FVec Ideal S2x128x512 .bf16) (wq : FVec Ideal S512x1024 .bf16) (k : FVec Ideal S2x128x16x64 .bf16) (b : Fin 2) (h : Fin 16) (i j : Fin 128) : EReal :=
  if j.val / 64 ≤ i.val / 64 then score x wq k b h i j else ⊥

/-- The region keeps a score where the column's operand is at most the row's, and puts minus infinity elsewhere. -/
theorem pay_apply (v0 : IVec S1x128 32) (v2 : IVec S128x1 32) (v8 : FVec Ideal S2x16x128x128 .f32) (b : Fin 2) (h : Fin 16) (i j : Fin 128) :
    k0_pay1 (F := Ideal) v0 v2 v8 (ix4 b h i j) = Scalar.select (IntOp.cmpi .sle (v0 (ix2 0 j)) (v2 (ix2 i 0))) (v8 (ix4 b h i j)) ⊥ := by
  have hn : Named.named (F := Ideal) Cert.ReferenceIdeal.κ "mask" (φ := .f32) 0xCE6E6B28#32 = (⊥ : EReal) :=
    IdealRules.named_const.ideal_named_scalar _ _ _ _ rfl
  have hc : broadcastTo S128x128 v0 broadcasts_S1x128_S128x128 (ix2 i j) = v0 (ix2 0 j) := broadcastTo_apply _ _ _ _ fun a => match a with
      | ⟨0, _⟩ => rfl
      | ⟨1, _⟩ => rfl
  have hq : broadcastTo S128x128 v2 broadcasts_S128x1_S128x128 (ix2 i j) = v2 (ix2 i 0) := broadcastTo_apply _ _ _ _ fun a => match a with
      | ⟨0, _⟩ => rfl
      | ⟨1, _⟩ => rfl
  have hm : ∀ w : IVec S128x128 1, broadcastTo S2x16x128x128 (shapeCast S1x1x128x128 (shapeCast S1x1x128x128 w shapeCasts_S128x128_S1x1x128x128) shapeCasts_S1x1x128x128_S1x1x128x128) broadcasts_S1x1x128x128_S2x16x128x128 (ix4 b h i j) = w (ix2 i j) := fun w => by
    refine Eq.trans (broadcastTo_apply _ _ _ (ix4 0 0 i j) fun a => ?_) ?_
    · match a with
      | ⟨0, _⟩ => rfl
      | ⟨1, _⟩ => rfl
      | ⟨2, _⟩ => rfl
      | ⟨3, _⟩ => rfl
    · rw [shapeCast_self]
      exact shapeCast_apply _ _ _ _ (by simp [Shape.rowMajor_val_two, Shape.rowMajor_val_four, ix2, ix4])
  unfold k0_pay1
  rw [shapeCast_self v8, shapeCast_self v0, shapeCast_self v2]
  refine Eq.trans (congrArg₂ (Scalar.select · (v8 (ix4 b h i j)) ·) (hm _) hn) ?_
  exact congrArg (Scalar.select · (v8 (ix4 b h i j)) ⊥) (congrArg₂ (IntOp.cmpi .sle) hc hq)

variable (m : (ℓ : Loc nD τ sig) → Buf (Elt Ideal) ℓ) (c : Dev nD)

/-- The region's output has the value `masked` at every entry. -/
theorem reg_apply (b : Fin 2) (h : Fin 16) (i j : Fin 128) :
    (Value.reg_main_v23 m c : FVec Ideal S2x16x128x128 .f32) (ix4 b h i j)
      = masked (m ((c.tc : Thread nD τ).loc main_arg0)) (m ((c.tc : Thread nD τ).loc main_arg1)) (m ((c.tc : Thread nD τ).loc main_arg2)) b h i j := by
  rw [reg_eq]
  refine (pay_apply _ _ _ b h i j).trans ?_
  rw [V_main_v14, V_main_v11, V_main_v22, kb_apply, qb_apply, keeps, scores_apply]
  unfold masked
  split <;> rfl

/-- The reference's result from its arguments, at an index. -/
def result (x : FVec Ideal S2x128x512 .bf16) (wq : FVec Ideal S512x1024 .bf16) (k v : FVec Ideal S2x128x16x64 .bf16) (wo : FVec Ideal S1024x512 .bf16)
    (b : Fin 2) (i : Fin 128) (n : Fin 512) : EReal :=
  ∑ M : Fin 1024, (∑ j : Fin 128, v (ix4 b j ⟨M.val / 64, by omega⟩ ⟨M.val % 64, by omega⟩)
    * soft (masked x wq k b ⟨M.val / 64, by omega⟩ i) j) * wo (ix2 M n)

/-- The reference's result has the value `result` at every entry. -/
theorem res_apply (b : Fin 2) (i : Fin 128) (n : Fin 512) :
    (Value.res_main_v42 m c : FVec Ideal S2x128x512 .bf16) (ix3 b i n)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b i n := by
  rw [(Value.fin_main_v42 m c).symm.trans ((Value.tail_main_v42 (Value.exitV m c)).trans (Read.val_main_v42_eq (Value.exitV m c)))]
  refine (v42_apply _ _ (exit_mask_apply m c) _ _ b i n).trans ?_
  rw [Value.exit_main_v23, Value.exit_main_v3, Value.exit_main_v4]
  unfold result
  refine Finset.sum_congr rfl fun M _ => congrArg (· * _) (Finset.sum_congr rfl fun j _ => ?_)
  exact congrArg (fun s => _ * soft s j) (funext fun k => reg_apply m c b _ i k)

end Cert.ReferenceIdeal.RefValue

end
-- ==== Proof.Mask.lean ====
/-
  The block-causal mask of the kernel, read at an index over the extended reals: one where the key's block of 64 rows
  is not after the query's, zero elsewhere.
-/
module

public import proofs.«01_k».proof.Proof.HeadsIdeal

@[expose] public section

noncomputable section

namespace Cert.KernelIdeal.Tp

open Idealize.ShloMosaic Idealize.ShloMosaic.TcCoe Idealize.SL.Sem Idealize.ShloMosaic.ValueIdx
open Cert.KernelIdeal.Gen

/-- The kernel's flooring quotient of the word of `n` by 64. -/
def flr64 (n : Nat) : BitVec 32 :=
  Scalar.select
    (IntOp.andi
      (IntOp.cmpi .ne
        (IntOp.subi ((IntOp.cmpi .sgt (BitVec.ofNat 32 n) 0#32).setWidth 32) ((IntOp.cmpi .slt (BitVec.ofNat 32 n) 0#32).setWidth 32))
        (Scalar.subi (Scalar.extui (Scalar.cmpi .sgt 64#32 0#32)) (Scalar.extui (Scalar.cmpi .slt 64#32 0#32))))
      (IntOp.cmpi .ne (IntOp.remsi .vector (BitVec.ofNat 32 n) 64#32) 0#32))
    (IntOp.subi (IntOp.divsi .vector (BitVec.ofNat 32 n) 64#32) 1#32)
    (IntOp.divsi .vector (BitVec.ofNat 32 n) 64#32)

/-- On the row numbers it is the number of the row's block. -/
theorem flr64_eq : ∀ n : Fin 128, flr64 (0 * 128 + n.val) = BitVec.ofNat 32 (n.val / 64) := by decide +kernel

/-- Comparing two block numbers as words compares them. -/
theorem sle_blocks : ∀ a b : Fin 2, (IntOp.cmpi .sle (BitVec.ofNat 32 a.val) (BitVec.ofNat 32 b.val)) = if a.val ≤ b.val then 1#1 else 0#1 := by decide

/-- The kernel's mask is one where the column's block of 64 is not after the row's, and zero elsewhere. -/
theorem mk_apply (r j : Fin 128) : mk (F := Ideal) (ix2 r j) = if j.val / 64 ≤ r.val / 64 then 1 else 0 := by
  have e : mk (F := Ideal) (ix2 r j)
      = FloatOps.sitofp (F := Ideal) .f32 ((IntOp.cmpi .sle (flr64 (0 * 128 + j.val)) (flr64 (0 * 128 + r.val))).setWidth 32) := rfl
  rw [e, flr64_eq, flr64_eq, sle_blocks ⟨j.val / 64, by omega⟩ ⟨r.val / 64, by omega⟩]
  dsimp only
  split
  · show (((1#32 : BitVec 32).toInt : ℝ) : EReal) = 1
    simp
  · show (((0#32 : BitVec 32).toInt : ℝ) : EReal) = 0
    simp

end Cert.KernelIdeal.Tp

end
-- ==== Proof.Rows.lean ====
/-
  One row of a softmax over the extended reals: weights that are masked exponentials, summed and divided out at the end,
  against exponentials of scores shifted by their maximum, divided out first. No program is read here.
-/
module

public import Idealize.ShloMosaic.PureOps.Ideal
public import Mathlib.Data.EReal.Operations
public import Mathlib.Data.EReal.Inv

@[expose] public section

namespace Cert.Rows

open Idealize.ShloMosaic
open scoped BigOperators

/-- The exponential of a real number is the real exponential. -/
theorem exp_coe (r : ℝ) : Ideal.exp (r : EReal) = ((Real.exp r : ℝ) : EReal) := rfl
/-- The exponential of minus infinity is zero. -/
theorem exp_bot : Ideal.exp ⊥ = 0 := rfl

/-- A nonnegative real factor goes through a sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    rw [mul_comm, EReal.left_distrib_of_nonneg_of_ne_top (by exact_mod_cast hr) (EReal.coe_ne_top r), mul_comm, mul_comm (∑ i ∈ s, f i)]

/-- A sum of reals is real. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable {n : ℕ}

/-- The largest unmasked score is a score. -/
theorem max_real (f : Fin n → ℝ) (M : Fin n → Prop) [DecidablePred M] (hM : ∃ j, M j) :
    ∃ μ : ℝ, (Finset.univ : Finset (Fin n)).fold max (⊥ : EReal) (fun j => if M j then ((f j : ℝ) : EReal) else ⊥) = (μ : EReal) := by
  obtain ⟨j0, h0⟩ := hM
  set g : Fin n → EReal := fun j => if M j then ((f j : ℝ) : EReal) else ⊥ with hg
  have hlow : ((f j0 : ℝ) : EReal) ≤ (Finset.univ : Finset (Fin n)).fold max (⊥ : EReal) g :=
    Finset.le_fold_max _ |>.2 (Or.inr ⟨j0, Finset.mem_univ _, by simp [hg, h0]⟩)
  have hup : (Finset.univ : Finset (Fin n)).fold max (⊥ : EReal) g < ⊤ :=
    Finset.fold_max_lt _ |>.2 ⟨bot_lt_top, fun j _ => by
      by_cases h : M j
      · simp [hg, h, EReal.coe_lt_top]
      · simp [hg, h]⟩
  have hb : (⊥ : EReal) < (Finset.univ : Finset (Fin n)).fold max (⊥ : EReal) g := lt_of_lt_of_le (EReal.bot_lt_coe _) hlow
  exact ⟨_, (EReal.coe_toReal hup.ne hb.ne').symm⟩

/-- **The row.** Real scores `f`, a mask that holds somewhere, any values `v`: masked exponentials, weighted sum, divided at
the end, equals the sum with the weights shifted by the row's maximum and divided before. -/
theorem row (f : Fin n → ℝ) (M : Fin n → Prop) [DecidablePred M] (hM : ∃ j, M j) (v : Fin n → EReal) :
    (∑ j, Ideal.exp ((f j : ℝ) : EReal) * (if M j then 1 else 0) * v j)
        * Ideal.div 1 (∑ j, Ideal.exp ((f j : ℝ) : EReal) * (if M j then 1 else 0))
      = ∑ j, v j * Ideal.div
          (Ideal.exp ((if M j then ((f j : ℝ) : EReal) else ⊥)
            - (Finset.univ : Finset (Fin n)).fold max (⊥ : EReal) (fun j => if M j then ((f j : ℝ) : EReal) else ⊥)))
          (0 + ∑ j', Ideal.exp ((if M j' then ((f j' : ℝ) : EReal) else ⊥)
            - (Finset.univ : Finset (Fin n)).fold max (⊥ : EReal) (fun j => if M j then ((f j : ℝ) : EReal) else ⊥))) := by
  obtain ⟨μ, hμ⟩ := max_real f M hM
  rw [hμ]
  set a : Fin n → ℝ := fun j => if M j then Real.exp (f j) else 0 with ha
  have e1 : ∀ j, Ideal.exp ((f j : ℝ) : EReal) * (if M j then 1 else 0) = ((a j : ℝ) : EReal) := fun j => by
    by_cases h : M j
    · simp [ha, h, exp_coe]
    · simp [ha, h]
  have e2 : ∀ j, Ideal.exp ((if M j then ((f j : ℝ) : EReal) else ⊥) - (μ : EReal)) = ((a j * Real.exp (-μ) : ℝ) : EReal) := fun j => by
    by_cases h : M j
    · rw [if_pos h, ← EReal.coe_sub]
      simp only [ha, if_pos h, ← Real.exp_add]
      exact congrArg (fun t : ℝ => ((Real.exp t : ℝ) : EReal)) (sub_eq_add_neg _ _)
    · simp [ha, h, exp_bot]
  simp only [e1, e2, zero_add]
  rw [sum_coe, sum_coe, ← Finset.sum_mul]
  obtain ⟨j0, h0⟩ := hM
  have hnn : ∀ j, 0 ≤ a j := fun j => by
    by_cases h : M j
    · simp only [ha, if_pos h]; exact (Real.exp_pos _).le
    · simp [ha, h]
  have hpos : 0 < ∑ j, a j := Finset.sum_pos' (fun j _ => hnn j) ⟨j0, Finset.mem_univ _, by simp only [ha, if_pos h0]; exact Real.exp_pos _⟩
  have hx := Real.exp_pos (-μ)
  rw [Ideal.div_coe hpos.ne', one_mul, sum_mul_coe _ _ _ (by positivity)]
  refine Finset.sum_congr rfl fun j _ => ?_
  rw [Ideal.div_coe (mul_pos hpos hx).ne', mul_comm _ (v j), mul_assoc, ← EReal.coe_mul, ← EReal.coe_mul]
  refine congrArg (fun t : ℝ => v j * (t : EReal)) ?_
  field_simp

end Cert.Rows
-- ==== Proof.Join.lean ====
/-
  The mathematics the two programs share: over real inputs one element of the kernel's joined heads, normalized after
  the values are gathered, is the reference's, normalized before and with each row's greatest score subtracted.
-/
module

public import proofs.«01_k».proof.Proof.RefRead
public import proofs.«01_k».proof.Proof.Mask
public import proofs.«01_k».proof.Proof.Rows

@[expose] public section

noncomputable section

namespace Cert.Join

open Idealize.ShloMosaic Idealize.ShloMosaic.ValueIdx
open Cert.KernelIdeal Cert.KernelIdeal.Tp
open scoped BigOperators

/-- An array of extended reals that are all real. -/
def Real' {s : Shape} (x : s.Idx → EReal) : Prop := ∀ i, ∃ r : ℝ, x i = (r : EReal)

/-- The column, among the 1024 of the whole layout, of column `m` of device `d`'s 256. -/
def colOn (d : Fin 4) (m : Fin 256) : Fin 1024 := ⟨256 * d.val + m.val, by omega⟩
/-- The head a column lies in, and its place in the head. -/
def headOf (M : Fin 1024) : Fin 16 := ⟨M.val / 64, by omega⟩
def inHead (M : Fin 1024) : Fin 64 := ⟨M.val % 64, by omega⟩

/-- A column and its mates, the columns of the same head, lie in one head. -/
theorem headOf_mate (d : Fin 4) (m : Fin 256) (e : Fin 64) : headOf (colOn d (mate m e)) = headOf (colOn d m) :=
  Fin.ext (by show (256 * d.val + (64 * (m.val / 64) + e.val)) / 64 = (256 * d.val + m.val) / 64; omega)
/-- The `e`-th mate of a column stands at place `e` in its head. -/
theorem inHead_mate (d : Fin 4) (m : Fin 256) (e : Fin 64) : inHead (colOn d (mate m e)) = e :=
  Fin.ext (by show (256 * d.val + (64 * (m.val / 64) + e.val)) % 64 = e.val; omega)
/-- The `e`-th mate of a column, named by its head and place. -/
theorem colOn_mate (d : Fin 4) (m : Fin 256) (e : Fin 64) : colOn d (mate m e) = ⟨64 * (headOf (colOn d m)).val + e.val, by omega⟩ :=
  Fin.ext (by show 256 * d.val + (64 * (m.val / 64) + e.val) = 64 * ((256 * d.val + m.val) / 64) + e.val; omega)

variable (x : FVec Ideal S2x128x512 .bf16) (wq : FVec Ideal ⟨2, ![512, 1024]⟩ .bf16) (k v : FVec Ideal S2x128x16x64 .bf16)

/-- Over real inputs a score is real, and the kernel's way of scaling the queries first gives the same. -/
theorem score_real (hx : Real' x) (hw : Real' wq) (hk : Real' k) (b : Fin 2) (h : Fin 16) (i j : Fin 128) :
    ∃ r : ℝ, Cert.ReferenceIdeal.RefValue.score x wq k b h i j = (r : EReal)
      ∧ (∑ e : Fin 64, ((∑ t : Fin 512, x (ix3 b i t) * wq (ix2 t ⟨64 * h.val + e.val, by omega⟩)) * ((0.125 : ℝ) : EReal)) * k (ix4 b j h e)) = (r : EReal) := by
  choose xr hx using hx
  choose wr hw using hw
  choose kr hk using hk
  refine ⟨(∑ d : Fin 64, (∑ t : Fin 512, xr (ix3 b i t) * wr (ix2 t ⟨64 * h.val + d.val, by omega⟩)) * kr (ix4 b j h d)) * 0.125, ?_, ?_⟩
  · unfold Cert.ReferenceIdeal.RefValue.score Cert.ReferenceIdeal.RefValue.proj
    rw [EReal.coe_mul, ← Cert.Rows.sum_coe]
    refine congrArg (· * _) (Finset.sum_congr rfl fun d _ => ?_)
    rw [EReal.coe_mul, ← Cert.Rows.sum_coe, hk]
    refine congrArg (· * _) (Finset.sum_congr rfl fun t _ => ?_)
    rw [EReal.coe_mul, hx, hw]
  · rw [Finset.sum_mul, ← Cert.Rows.sum_coe]
    refine Finset.sum_congr rfl fun d _ => ?_
    rw [mul_right_comm, EReal.coe_mul, EReal.coe_mul, ← Cert.Rows.sum_coe, hk]
    refine congrArg (· * _ * _) (Finset.sum_congr rfl fun t _ => ?_)
    rw [EReal.coe_mul, hx, hw]

/-- One element of the joined heads is the reference's. -/
theorem attn_eq (hx : Real' x) (hw : Real' wq) (hk : Real' k) (d : Fin 4) (b : Fin 2)
    (xB : Vec Ideal S1x128x512 .bf16) (wqB : FVec Ideal S512x256 .bf16) (kB vB : Vec Ideal S1x128x256 .bf16)
    (hxB : ∀ r t, xB (ix3 0 r t) = x (ix3 b r t)) (hwB : ∀ t m, wqB (ix2 t m) = wq (ix2 t (colOn d m)))
    (hkB : ∀ j m, kB (ix3 0 j m) = k (ix4 b j (headOf (colOn d m)) (inHead (colOn d m))))
    (hvB : ∀ j m, vB (ix3 0 j m) = v (ix4 b j (headOf (colOn d m)) (inHead (colOn d m)))) (i : Fin 128) (m : Fin 256) :
    joined mk (qry wqB xB) (flat kB) (flat vB) (ix2 i m)
      = ∑ j : Fin 128, v (ix4 b j (headOf (colOn d m)) (inHead (colOn d m)))
          * Cert.ReferenceIdeal.RefValue.soft (Cert.ReferenceIdeal.RefValue.masked x wq k b (headOf (colOn d m)) i) j := by
  choose f hf hf' using fun j => score_real x wq k hx hw hk b (headOf (colOn d m)) i j
  have hs : ∀ j : Fin 128, (∑ e : Fin 64, qry wqB xB (ix2 i (mate m e)) * flat kB (ix2 j (mate m e))) = ((f j : ℝ) : EReal) := fun j => by
    rw [← hf' j]
    refine Finset.sum_congr rfl fun e _ => ?_
    rw [qry_apply, flat_apply, hkB, headOf_mate, inHead_mate]
    refine congrArg (· * _ * _) (Finset.sum_congr rfl fun t _ => ?_)
    rw [hxB, hwB, colOn_mate]
  have hm : Cert.ReferenceIdeal.RefValue.masked x wq k b (headOf (colOn d m)) i
      = fun j => if j.val / 64 ≤ i.val / 64 then ((f j : ℝ) : EReal) else ⊥ := funext fun j => by
    unfold Cert.ReferenceIdeal.RefValue.masked; rw [hf]
  rw [joined_apply, hm]
  unfold attn Cert.ReferenceIdeal.RefValue.soft Cert.ReferenceIdeal.RefValue.top
  simp only [hs]
  simp only [mk_apply, flat_apply, hvB]
  exact Cert.Rows.row f (fun j => j.val / 64 ≤ i.val / 64) ⟨0, by simp⟩ _

/-- A sum over the 1024 columns is a sum over the devices and each device's 256. -/
theorem sum_cols (g : Fin 1024 → EReal) : ∑ M, g M = ∑ d : Fin 4, ∑ m : Fin 256, g (colOn d m) := by
  rw [← Fintype.sum_prod_type', ← Equiv.sum_comp (finProdFinEquiv (m := 4) (n := 256)) g]
  refine Finset.sum_congr rfl fun p _ => congrArg g (Fin.ext ?_)
  show p.2.val + 256 * p.1.val = 256 * p.1.val + p.2.val
  omega

end Cert.Join

end
-- ==== Proof.Finite.lean ====
/-
  What the precondition says: every element of the inputs, of the query weights and of the keys is a real number.
-/
module

public import proofs.«01_k».proof.Defs
public import proofs.«01_k».proof.Proof.Gen.Pre_finite_KernelIdeal
public import proofs.«01_k».proof.Proof.Join
public import Idealize.ShloMosaic.Lib.ReduceAll
public import Idealize.ShloMosaic.Lib.Affine

@[expose] public section

noncomputable section

namespace Cert.Join

open Idealize.ShloMosaic Idealize.ShloMosaic.ValueIdx

/-- A number whose magnitude is below infinity is real. -/
theorem real_of_abs (a : EReal) (h : max a (-a) < ⊤) : ∃ r : ℝ, a = (r : EReal) := by
  induction a with
  | bot => simp at h
  | top => simp at h
  | coe r => exact ⟨r, rfl⟩

/-- An array compared elementwise below infinity, with every comparison true, is real throughout. -/
theorem real_of_all {s t : Shape} [Subsingleton t.Idx] {axes : List (Fin s.rank)} (x : FVec Ideal s .bf16) (hb : FTy.bits .bf16 < FTy.bits .f32)
    (dims : Fin t.rank → Fin s.rank) (hd : t.BroadcastsInDim s dims) (hr : s.ReducesTo axes t) (hu : 0 < t.numel) (init : IVec t 1) (j : t.Idx)
    (h : Host.reduce IntOp.andi (cmpf .olt (Host.absf (extf .f32 x hb)) (broadcastInDim s dims hd (constant t .f32 0x7F800000#32))) init hr hu j = 1#1) :
    Real' (s := s) x := fun i => by
  have e := Host.reduce_andi_all _ init hr hu j h i
  have e' : FloatOps.cmpf (F := Ideal) (φ := .f32) .olt (FloatOps.absf (F := Ideal) (φ := .f32) (x i)) (Ideal.ofBits .f32 0x7F800000#32) = 1#1 := e
  have ht : Ideal.ofBits .f32 0x7F800000#32 = ⊤ := by simp [Ideal.ofBits, Ideal.ieee]
  rw [ht] at e'
  have e'' : BitVec.ofBool (decide (max (x i) (-(x i)) < ⊤)) = 1#1 := e'
  refine real_of_abs (x i) ?_
  by_contra hn
  rw [decide_eq_false hn] at e''
  exact absurd e'' (by decide)

/-- The precondition of the kernel, read. -/
theorem finite_args [Cert.Pre_finite_KernelIdeal.Facts] (m : (ℓ : Loc Cert.KernelIdeal.nD Cert.KernelIdeal.τ Cert.KernelIdeal.sig) → Buf (Elt Ideal) ℓ)
    (h : Cert.Pre_KernelIdeal_finite_KernelIdeal m) (c : Dev Cert.KernelIdeal.nD) :
    Real' (s := ⟨3, ![2, 128, 512]⟩) (m ((c.tc : Thread Cert.KernelIdeal.nD Cert.KernelIdeal.τ).loc Cert.KernelIdeal.main_arg0))
    ∧ Real' (s := ⟨2, ![512, 256]⟩) (m ((c.tc : Thread Cert.KernelIdeal.nD Cert.KernelIdeal.τ).loc Cert.KernelIdeal.main_arg1))
    ∧ Real' (s := ⟨4, ![2, 128, 16, 64]⟩) (m ((c.tc : Thread Cert.KernelIdeal.nD Cert.KernelIdeal.τ).loc Cert.KernelIdeal.main_arg2)) := by
  haveI : Subsingleton (⟨0, ![]⟩ : Shape).Idx := ⟨fun _ _ => funext fun a => a.elim0⟩
  have e := congrFun (h c) (fun a => a.elim0)
  obtain ⟨e01, e2⟩ := IntOp.andi_eq_one.1 e
  obtain ⟨e0, e1⟩ := IntOp.andi_eq_one.1 e01
  exact ⟨real_of_all _ _ _ _ _ _ _ _ e0, real_of_all _ _ _ _ _ _ _ _ e1, real_of_all _ _ _ _ _ _ _ _ e2⟩

end Cert.Join

end
-- ==== Proof.Meet.lean ====
/-
  The two results meet: over real inputs every device's result is the reference's.
-/
module

public import proofs.«01_k».proof.Proof.KernelRead
public import proofs.«01_k».proof.Proof.Finite
public import Idealize.ShloMosaic.Lib.Layout

@[expose] public section

noncomputable section

namespace Cert.Join

open Idealize.ShloMosaic Idealize.ShloMosaic.TcCoe Idealize.SL.Sem Idealize.ShloMosaic.ValueIdx
open Cert.KernelIdeal Cert.KernelIdeal.Gen Cert.KernelIdeal.Tp
open scoped BigOperators

/-- A device's block of the query weights, cut along the columns. -/
theorem cols_apply (w : FVec Ideal ⟨2, ![512, 1024]⟩ .bf16) (d : Fin 4) (t : Fin 512) (m : Fin 256) :
    Layout.block ⟨2, ![512, 256]⟩ ⟨2, ![512, 1024]⟩ 1 4 d w (by decide) (ix2 t m) = w (ix2 t (colOn d m)) :=
  congrArg w (funext fun a => Fin.ext (match a with
    | ⟨0, _⟩ => rfl
    | ⟨1, _⟩ => by show d.val * 256 + m.val = 256 * d.val + m.val; omega))

/-- A device's block of the output weights, cut along the rows. -/
theorem rows_apply (w : FVec Ideal ⟨2, ![1024, 512]⟩ .bf16) (d : Fin 4) (m : Fin 256) (n : Fin 512) :
    Layout.block ⟨2, ![256, 512]⟩ ⟨2, ![1024, 512]⟩ 0 4 d w (by decide) (ix2 m n) = w (ix2 (colOn d m) n) :=
  congrArg w (funext fun a => Fin.ext (match a with
    | ⟨0, _⟩ => by show d.val * 256 + m.val = 256 * d.val + m.val; omega
    | ⟨1, _⟩ => rfl))

/-- If every device's block of the query weights is real, the whole is. -/
theorem real_cols (w : FVec Ideal ⟨2, ![512, 1024]⟩ .bf16)
    (h : ∀ d : Fin 4, Real' (s := ⟨2, ![512, 256]⟩) (Layout.block ⟨2, ![512, 256]⟩ ⟨2, ![512, 1024]⟩ 1 4 d w (by decide))) : Real' (s := ⟨2, ![512, 1024]⟩) w := fun i => by
  have hi : (i 1).val < 1024 := (i 1).isLt
  obtain ⟨r, hr⟩ := h ⟨(i 1).val / 256, by omega⟩ (ix2 (i 0) ⟨(i 1).val % 256, by omega⟩)
  refine ⟨r, Eq.trans (congrArg w (funext fun a => Fin.ext ?_)) ((cols_apply w _ _ _).symm.trans hr)⟩
  match a with
  | ⟨0, _⟩ => rfl
  | ⟨1, _⟩ => show (i 1).val = 256 * ((i 1).val / 256) + (i 1).val % 256; omega

variable (m : (ℓ : Loc nD τ sig) → Buf (Elt Ideal) ℓ)
variable (x : FVec Ideal S2x128x512 .bf16) (wq : FVec Ideal ⟨2, ![512, 1024]⟩ .bf16) (k v : FVec Ideal S2x128x16x64 .bf16) (wo : FVec Ideal ⟨2, ![1024, 512]⟩ .bf16)

/-- What every device's arguments are of the whole arrays. -/
def Holds (d : Dev nD) : Prop :=
  m ((d.tc : Thread nD τ).loc main_arg0) = x
  ∧ m ((d.tc : Thread nD τ).loc main_arg1) = Layout.block ⟨2, ![512, 256]⟩ ⟨2, ![512, 1024]⟩ 1 4 d wq (by decide)
  ∧ m ((d.tc : Thread nD τ).loc main_arg2) = k
  ∧ m ((d.tc : Thread nD τ).loc main_arg3) = v
  ∧ m ((d.tc : Thread nD τ).loc main_arg4) = Layout.block ⟨2, ![256, 512]⟩ ⟨2, ![1024, 512]⟩ 0 4 d wo (by decide)

/-- A device's share of the result: the columns of its heads through its rows of the output weights. -/
theorem share_eq (hx : Real' x) (hw : Real' wq) (hk : Real' k) (d : Dev nD) (hm : Holds m x wq k v wo d) (b : Fin 2) (i : Fin 128) (n : Fin 512) :
    Pb b d (A m d) (ix2 i n) = ∑ m' : Fin 256, (∑ j : Fin 128, v (ix4 b j (headOf (colOn d m')) (inHead (colOn d m')))
          * Cert.ReferenceIdeal.RefValue.soft (Cert.ReferenceIdeal.RefValue.masked x wq k b (headOf (colOn d m')) i) j) * wo (ix2 (colOn d m') n) := by
  obtain ⟨h0, h1, h2, h3, h4⟩ := hm
  have e0 : (A m d).x = x := (V_main_arg0 m d).trans h0
  have e1 : ∀ t m', (wqV (A m d)) (ix2 t m') = wq (ix2 t (colOn d m')) := fun t m' => by
    rw [wqV_apply]
    exact (congrFun ((V_main_arg1 m d).trans h1) (ix2 t m')).trans (cols_apply wq d t m')
  have e4 : ∀ m' n, (woV (A m d)) (ix2 m' n) = wo (ix2 (colOn d m') n) := fun m' n => by
    rw [woV_apply]
    exact (congrFun ((V_main_arg4 m d).trans h4) (ix2 m' n)).trans (rows_apply wo d m' n)
  have e2 : ∀ (b : Fin 2) j m', ((A m d).k : Vec Ideal S2x128x1024 .bf16) (ix3 b j (colOn d m')) = k (ix4 b j (headOf (colOn d m')) (inHead (colOn d m'))) :=
    fun b j m' => (congrFun (V_main_v1 m d) _).trans ((heads_apply _ _ _ _).trans (congrFun h2 _))
  have e3 : ∀ (b : Fin 2) j m', ((A m d).v : Vec Ideal S2x128x1024 .bf16) (ix3 b j (colOn d m')) = v (ix4 b j (headOf (colOn d m')) (inHead (colOn d m'))) :=
    fun b j m' => (congrFun (V_main_v2 m d) _).trans ((heads_apply _ _ _ _).trans (congrFun h3 _))
  match b with
  | 0 =>
    show P0 d (A m d) (ix2 i n) = _
    rw [P0_eq, share_apply]
    refine Finset.sum_congr rfl fun m' _ => congrArg₂ (· * ·) ?_ (e4 m' n)
    exact attn_eq x wq k v hx hw hk d 0 _ _ _ _ (fun r t => (x0_apply _ r t).trans (congrFun e0 _)) e1
      (fun j m' => (k0r_apply _ d j m' _ rfl).trans (e2 0 j m')) (fun j m' => (v0r_apply _ d j m' _ rfl).trans (e3 0 j m')) i m'
  | 1 =>
    show P1 d (A m d) (ix2 i n) = _
    rw [P1_eq, share_apply]
    refine Finset.sum_congr rfl fun m' _ => congrArg₂ (· * ·) ?_ (e4 m' n)
    exact attn_eq x wq k v hx hw hk d 1 _ _ _ _ (fun r t => (x1_apply _ r t).trans (congrFun e0 _)) e1
      (fun j m' => (k1r_apply _ d j m' _ rfl).trans (e2 1 j m')) (fun j m' => (v1r_apply _ d j m' _ rfl).trans (e3 1 j m')) i m'

/-- Every device's result is the reference's. -/
theorem result_eq (hx : Real' x) (hw : Real' wq) (hk : Real' k) (hm : ∀ d, Holds m x wq k v wo d) (c : Dev nD) (b : Fin 2) (i : Fin 128) (n : Fin 512) :
    outF (A m) c (ix3 b i n) = Cert.ReferenceIdeal.RefValue.result x wq k v wo b i n := by
  refine Eq.trans (α := EReal) (outF_apply (A m) c b i n) ?_
  unfold Cert.ReferenceIdeal.RefValue.result
  refine Eq.trans (α := EReal) ?_ (sum_cols _).symm
  exact Finset.sum_congr rfl fun d _ => share_eq m x wq k v wo hx hw hk d (hm d) b i n

/-- The two results are one array. -/
theorem results_eq [Cert.Pre_finite_KernelIdeal.Facts]
    (m' : (ℓ : Loc Cert.ReferenceIdeal.nD Cert.ReferenceIdeal.τ Cert.ReferenceIdeal.sig) → Buf (Elt Ideal) ℓ) (c' : Dev Cert.ReferenceIdeal.nD)
    (hpre : Cert.Pre_KernelIdeal_finite_KernelIdeal m)
    (hm : ∀ d, Holds m (m' ((c'.tc : Thread Cert.ReferenceIdeal.nD Cert.ReferenceIdeal.τ).loc Cert.ReferenceIdeal.main_arg0))
      (m' ((c'.tc : Thread Cert.ReferenceIdeal.nD Cert.ReferenceIdeal.τ).loc Cert.ReferenceIdeal.main_arg1))
      (m' ((c'.tc : Thread Cert.ReferenceIdeal.nD Cert.ReferenceIdeal.τ).loc Cert.ReferenceIdeal.main_arg2))
      (m' ((c'.tc : Thread Cert.ReferenceIdeal.nD Cert.ReferenceIdeal.τ).loc Cert.ReferenceIdeal.main_arg3))
      (m' ((c'.tc : Thread Cert.ReferenceIdeal.nD Cert.ReferenceIdeal.τ).loc Cert.ReferenceIdeal.main_arg4)) d) (c : Dev nD) :
    (outF (A m) c : FVec Ideal S2x128x512 .bf16) = Cert.ReferenceIdeal.Value.res_main_v42 m' c' := by
  have hf := fun d => finite_args m hpre d
  funext i
  have hi : i = ix3 (i 0) (i 1) (i 2) := eq_ix3 i
  refine (congrArg (outF (A m) c : FVec Ideal S2x128x512 .bf16) hi).trans (Eq.trans ?_ (congrArg (Cert.ReferenceIdeal.Value.res_main_v42 m' c' : FVec Ideal S2x128x512 .bf16) hi).symm)
  refine (result_eq m _ _ _ _ _ ?_ ?_ ?_ hm c (i 0) (i 1) (i 2)).trans (Cert.ReferenceIdeal.RefValue.res_apply m' c' (i 0) (i 1) (i 2)).symm
  · have h := (hf 0).1; rw [(hm 0).1] at h; exact h
  · refine real_cols _ fun d => ?_
    have h := (hf d).2.1; rw [(hm d).2.1] at h; exact h
  · have h := (hf 0).2.2; rw [(hm 0).2.2.1] at h; exact h

end Cert.Join

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Launch
public import proofs.«01_k».proof.Proof.Meet
public import Idealize.ShloMosaic.Adequacy
public import Idealize.ShloMosaic.Init

@[expose] public section

noncomputable section

namespace Cert.Proof

open Idealize.ShloMosaic Idealize.SL.Sem

/-- Over any float values the kernel runs to the end on every device, leaves its arguments alone and every semaphore at
    zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.Tp.run_main (F := F) m ρ)

set_option smartUnfolding false in
/-- The kernel's frame: the two programs have the same text. -/
theorem frame_kernel : Cert.quiescent_Kernel := fun m ρ _ => frame_any (F := Bits) m ρ

/-- The frame of the kernel read over the extended reals. -/
theorem frame_kernelIdeal : Cert.quiescent_KernelIdeal := fun m ρ _ => frame_any (F := Ideal) m ρ

/-- The reference runs to the end, leaves its arguments alone and its semaphores at zero. -/
theorem frame_referenceIdeal : Cert.quiescent_ReferenceIdeal := fun m ρ _ => Cert.ReferenceIdeal.Gen.frame m ρ

/-- From memories where every device holds its part of the reference's arguments, and these are finite where the
    precondition says so, the kernel's result on every device is the reference's. -/
theorem value [Cert.Pre_finite_KernelIdeal.Facts] : Cert.algebraic_KernelIdeal_ReferenceIdeal_pre_finite_KernelIdeal := fun m g m' g' hpre hm =>
  ⟨Cert.ReferenceIdeal.Value.res_main_v42 (F := Ideal) m' 0,
    (θ_run Cert.KernelIdeal.defs _ _).mono (fun _ h c => ⟨(h.1 c).1.trans (Cert.Join.results_eq m m' 0 hpre hm c), (h.1 c).2⟩)
      (Cert.KernelIdeal.Tp.run_main (F := Ideal) m g),
    (θ_run Cert.ReferenceIdeal.defs _ _).mono (fun _ h => h 0) (Cert.ReferenceIdeal.Value.run (F := Ideal) m' g')⟩

/-- Everything claimed. -/
theorem claim : Cert.Claim := ⟨Cert.Kernel.Gen.facts, Cert.KernelIdeal.Gen.facts, Cert.ReferenceIdeal.Gen.facts, Cert.Pre_finite_KernelIdeal.Gen.facts,
  Cert.Pre_finite_ReferenceIdeal.Gen.facts, frame_kernel, frame_kernelIdeal, fun m ρ _ => frame_kernelIdeal m ρ trivial, frame_referenceIdeal,
  fun m ρ _ => frame_referenceIdeal m ρ trivial, trivial, value⟩

end Cert.Proof

end
